-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 512]⟩ ⟨2, ![4096, 8192]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 512]⟩ ⟨2, ![4096, 8192]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x512 : Shape := ⟨2, ![4096, 512]⟩
abbrev S4x64x4096 : Shape := ⟨3, ![4, 64, 4096]⟩
abbrev S3x64x4096 : Shape := ⟨3, ![3, 64, 4096]⟩
abbrev S12 : Shape := ⟨1, ![12]⟩
abbrev S4 : Shape := ⟨1, ![4]⟩
abbrev S3 : Shape := ⟨1, ![3]⟩
abbrev S_ : Shape := ⟨0, ![]⟩
abbrev S64x4096 : Shape := ⟨2, ![64, 4096]⟩
abbrev S1x64x4096 : Shape := ⟨3, ![1, 64, 4096]⟩
abbrev S1 : Shape := ⟨1, ![1]⟩
abbrev S256x512 : Shape := ⟨2, ![256, 512]⟩
abbrev S64x512 : Shape := ⟨2, ![64, 512]⟩

abbrev nBuf : Space → Nat
  | .hbm => 3
  | .vmem => 11
  | .smem => 0
  | _ => 0

abbrev bufTy : (tb : Table) → Fin (tcTables nBuf tb) → BufTy
  | .hbm, ⟨0, _⟩ => ⟨S256x4096, .f32⟩
  | .hbm, ⟨1, _⟩ => ⟨S4096x512, .f32⟩
  | .hbm, ⟨2, _⟩ => ⟨S4096x512, .f32⟩
  | .local _ .vmem, ⟨0, _⟩ => ⟨S256x4096, .f32⟩
  | .local _ .vmem, ⟨1, _⟩ => ⟨S4096x512, .f32⟩
  | .local _ .vmem, ⟨2, _⟩ => ⟨S4096x512, .f32⟩
  | .local _ .vmem, ⟨3, _⟩ => ⟨S4x64x4096, .f32⟩
  | .local _ .vmem, ⟨4, _⟩ => ⟨S4x64x4096, .f32⟩
  | .local _ .vmem, ⟨5, _⟩ => ⟨S4x64x4096, .f32⟩
  | .local _ .vmem, ⟨6, _⟩ => ⟨S4x64x4096, .f32⟩
  | .local _ .vmem, ⟨7, _⟩ => ⟨S3x64x4096, .f32⟩
  | .local _ .vmem, ⟨8, _⟩ => ⟨S3x64x4096, .f32⟩
  | .local _ .vmem, ⟨9, _⟩ => ⟨S3x64x4096, .f32⟩
  | .local _ .vmem, ⟨10, _⟩ => ⟨S3x64x4096, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 6 → Bool
  | ⟨0, _⟩ => true
  | ⟨1, _⟩ => true
  | ⟨2, _⟩ => true
  | ⟨3, _⟩ => true
  | ⟨4, _⟩ => true
  | ⟨5, _⟩ => false
  | _ => false

abbrev dmaSemScoped : Fin 91 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | _ => false

abbrev sig : RefSig :=
  (ofTc nBuf bufTy 6 91 bufScoped semScoped dmaSemScoped tileCredit tileCredit_eq_zero tileCredit_pos).withBarriers [(0, 5)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 5

abbrev nD : Nat := 16
abbrev τ : Topo := Topo.v7x

variable {F : FTy → Type} [FloatOps F]

abbrev grid0 : Pipeline.Grid := .none

def k0_dev1 (d0 : Dev nD) : Nat :=
  let c0_i32_31 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_30 : BitVec 32 := 1#32
  let v59 : BitVec 32 := Scalar.muli v55 c1_i32_30
  let v60 : BitVec 32 := Scalar.addi c0_i32_31 v59
  v60.toNat
def k0_dev2 (d0 : Dev nD) : Nat :=
  let c0_i32_34 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_33 : BitVec 32 := 1#32
  let v61 : BitVec 32 := Scalar.muli v42 c1_i32_33
  let v62 : BitVec 32 := Scalar.addi c0_i32_34 v61
  v62.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32 : BitVec 32 := 3#32
  let v63 : BitVec 1 := Scalar.cmpi .slt v19 c3_i32
  let v64 : BitVec 32 := Scalar.extui v63
  let c0_i32_35 : BitVec 32 := 0#32
  let v65 : BitVec 1 := Scalar.cmpi .ne v64 c0_i32_35
  v65

def k0_dev3 (d0 : Dev nD) : Nat :=
  let c0_i32_2651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c1_i32_2650 : BitVec 32 := 1#32
  let v2961 : BitVec 32 := Scalar.muli v56 c1_i32_2650
  let v2962 : BitVec 32 := Scalar.addi c0_i32_2651 v2961
  v2962.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_36 : BitVec 32 := 0#32
  let v66 : BitVec 1 := Scalar.cmpi .sgt v19 c0_i32_36
  let v67 : BitVec 32 := Scalar.extui v66
  let c0_i32_37 : BitVec 32 := 0#32
  let v68 : BitVec 1 := Scalar.cmpi .ne v67 c0_i32_37
  v68

def k0_dev4 (d0 : Dev nD) : Nat :=
  let c0_i32_2651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.subi v2 c4_i32_28
  let c1_i32_2650 : BitVec 32 := 1#32
  let v2961 : BitVec 32 := Scalar.muli v57 c1_i32_2650
  let v2962 : BitVec 32 := Scalar.addi c0_i32_2651 v2961
  v2962.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_58 : BitVec 32 := 0#32
  let v95 : BitVec 1 := Scalar.cmpi .eq v19 c0_i32_58
  let v96 : BitVec 32 := Scalar.extui v95
  let c0_i32_59 : BitVec 32 := 0#32
  let v97 : BitVec 1 := Scalar.cmpi .ne v96 c0_i32_59
  v97

def k0_dev5 (d0 : Dev nD) : Nat :=
  let c0_i32_2654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c1_i32_2653 : BitVec 32 := 1#32
  let v2961 : BitVec 32 := Scalar.muli v56 c1_i32_2653
  let v2962 : BitVec 32 := Scalar.addi c0_i32_2654 v2961
  v2962.toNat
def k0_dev6 (d0 : Dev nD) : Nat :=
  let c0_i32_2664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c1_i32_2663 : BitVec 32 := 1#32
  let v2971 : BitVec 32 := Scalar.muli v56 c1_i32_2663
  let v2972 : BitVec 32 := Scalar.addi c0_i32_2664 v2971
  v2972.toNat
def k0_dev7 (d0 : Dev nD) : Nat :=
  let c0_i32_2674 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c1_i32_2673 : BitVec 32 := 1#32
  let v2981 : BitVec 32 := Scalar.muli v56 c1_i32_2673
  let v2982 : BitVec 32 := Scalar.addi c0_i32_2674 v2981
  v2982.toNat
def k0_dev8 (d0 : Dev nD) : Nat :=
  let c0_i32_2684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c1_i32_2683 : BitVec 32 := 1#32
  let v2991 : BitVec 32 := Scalar.muli v56 c1_i32_2683
  let v2992 : BitVec 32 := Scalar.addi c0_i32_2684 v2991
  v2992.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_60 : BitVec 32 := 1#32
  let v98 : BitVec 1 := Scalar.cmpi .eq v19 c1_i32_60
  let v99 : BitVec 32 := Scalar.extui v98
  let c0_i32_61 : BitVec 32 := 0#32
  let v100 : BitVec 1 := Scalar.cmpi .ne v99 c0_i32_61
  v100

def k0_dev9 (d0 : Dev nD) : Nat :=
  let c0_i32_2654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c1_i32_2653 : BitVec 32 := 1#32
  let v2961 : BitVec 32 := Scalar.muli v56 c1_i32_2653
  let v2962 : BitVec 32 := Scalar.addi c0_i32_2654 v2961
  v2962.toNat
def k0_dev10 (d0 : Dev nD) : Nat :=
  let c0_i32_2664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c1_i32_2663 : BitVec 32 := 1#32
  let v2971 : BitVec 32 := Scalar.muli v56 c1_i32_2663
  let v2972 : BitVec 32 := Scalar.addi c0_i32_2664 v2971
  v2972.toNat
def k0_dev11 (d0 : Dev nD) : Nat :=
  let c0_i32_2674 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c1_i32_2673 : BitVec 32 := 1#32
  let v2981 : BitVec 32 := Scalar.muli v56 c1_i32_2673
  let v2982 : BitVec 32 := Scalar.addi c0_i32_2674 v2981
  v2982.toNat
def k0_dev12 (d0 : Dev nD) : Nat :=
  let c0_i32_2684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c1_i32_2683 : BitVec 32 := 1#32
  let v2991 : BitVec 32 := Scalar.muli v56 c1_i32_2683
  let v2992 : BitVec 32 := Scalar.addi c0_i32_2684 v2991
  v2992.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_62 : BitVec 32 := 2#32
  let v101 : BitVec 1 := Scalar.cmpi .eq v19 c2_i32_62
  let v102 : BitVec 32 := Scalar.extui v101
  let c0_i32_63 : BitVec 32 := 0#32
  let v103 : BitVec 1 := Scalar.cmpi .ne v102 c0_i32_63
  v103

def k0_dev13 (d0 : Dev nD) : Nat :=
  let c0_i32_2654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c1_i32_2653 : BitVec 32 := 1#32
  let v2961 : BitVec 32 := Scalar.muli v56 c1_i32_2653
  let v2962 : BitVec 32 := Scalar.addi c0_i32_2654 v2961
  v2962.toNat
def k0_dev14 (d0 : Dev nD) : Nat :=
  let c0_i32_2664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c1_i32_2663 : BitVec 32 := 1#32
  let v2971 : BitVec 32 := Scalar.muli v56 c1_i32_2663
  let v2972 : BitVec 32 := Scalar.addi c0_i32_2664 v2971
  v2972.toNat
def k0_dev15 (d0 : Dev nD) : Nat :=
  let c0_i32_2674 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c1_i32_2673 : BitVec 32 := 1#32
  let v2981 : BitVec 32 := Scalar.muli v56 c1_i32_2673
  let v2982 : BitVec 32 := Scalar.addi c0_i32_2674 v2981
  v2982.toNat
def k0_dev16 (d0 : Dev nD) : Nat :=
  let c0_i32_2684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c1_i32_2683 : BitVec 32 := 1#32
  let v2991 : BitVec 32 := Scalar.muli v56 c1_i32_2683
  let v2992 : BitVec 32 := Scalar.addi c0_i32_2684 v2991
  v2992.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_64 : BitVec 32 := 1#32
  let v104 : BitVec 1 := Scalar.cmpi .eq v19 c1_i32_64
  let v105 : BitVec 32 := Scalar.extui v104
  let c0_i32_65 : BitVec 32 := 0#32
  let v106 : BitVec 1 := Scalar.cmpi .ne v105 c0_i32_65
  v106

def k0_dev17 (d0 : Dev nD) : Nat :=
  let c0_i32_2654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.subi v2 c4_i32_28
  let c1_i32_2653 : BitVec 32 := 1#32
  let v2961 : BitVec 32 := Scalar.muli v57 c1_i32_2653
  let v2962 : BitVec 32 := Scalar.addi c0_i32_2654 v2961
  v2962.toNat
def k0_dev18 (d0 : Dev nD) : Nat :=
  let c0_i32_2664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.subi v2 c4_i32_28
  let c1_i32_2663 : BitVec 32 := 1#32
  let v2971 : BitVec 32 := Scalar.muli v57 c1_i32_2663
  let v2972 : BitVec 32 := Scalar.addi c0_i32_2664 v2971
  v2972.toNat
def k0_dev19 (d0 : Dev nD) : Nat :=
  let c0_i32_2674 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.subi v2 c4_i32_28
  let c1_i32_2673 : BitVec 32 := 1#32
  let v2981 : BitVec 32 := Scalar.muli v57 c1_i32_2673
  let v2982 : BitVec 32 := Scalar.addi c0_i32_2674 v2981
  v2982.toNat
def k0_dev20 (d0 : Dev nD) : Nat :=
  let c0_i32_2684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.subi v2 c4_i32_28
  let c1_i32_2683 : BitVec 32 := 1#32
  let v2991 : BitVec 32 := Scalar.muli v57 c1_i32_2683
  let v2992 : BitVec 32 := Scalar.addi c0_i32_2684 v2991
  v2992.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_66 : BitVec 32 := 2#32
  let v107 : BitVec 1 := Scalar.cmpi .eq v19 c2_i32_66
  let v108 : BitVec 32 := Scalar.extui v107
  let c0_i32_67 : BitVec 32 := 0#32
  let v109 : BitVec 1 := Scalar.cmpi .ne v108 c0_i32_67
  v109

def k0_dev21 (d0 : Dev nD) : Nat :=
  let c0_i32_2654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.subi v2 c4_i32_28
  let c1_i32_2653 : BitVec 32 := 1#32
  let v2961 : BitVec 32 := Scalar.muli v57 c1_i32_2653
  let v2962 : BitVec 32 := Scalar.addi c0_i32_2654 v2961
  v2962.toNat
def k0_dev22 (d0 : Dev nD) : Nat :=
  let c0_i32_2664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.subi v2 c4_i32_28
  let c1_i32_2663 : BitVec 32 := 1#32
  let v2971 : BitVec 32 := Scalar.muli v57 c1_i32_2663
  let v2972 : BitVec 32 := Scalar.addi c0_i32_2664 v2971
  v2972.toNat
def k0_dev23 (d0 : Dev nD) : Nat :=
  let c0_i32_2674 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.subi v2 c4_i32_28
  let c1_i32_2673 : BitVec 32 := 1#32
  let v2981 : BitVec 32 := Scalar.muli v57 c1_i32_2673
  let v2982 : BitVec 32 := Scalar.addi c0_i32_2674 v2981
  v2982.toNat
def k0_dev24 (d0 : Dev nD) : Nat :=
  let c0_i32_2684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.subi v2 c4_i32_28
  let c1_i32_2683 : BitVec 32 := 1#32
  let v2991 : BitVec 32 := Scalar.muli v57 c1_i32_2683
  let v2992 : BitVec 32 := Scalar.addi c0_i32_2684 v2991
  v2992.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_68 : BitVec 32 := 3#32
  let v110 : BitVec 1 := Scalar.cmpi .eq v19 c3_i32_68
  let v111 : BitVec 32 := Scalar.extui v110
  let c0_i32_69 : BitVec 32 := 0#32
  let v112 : BitVec 1 := Scalar.cmpi .ne v111 c0_i32_69
  v112

def k0_dev25 (d0 : Dev nD) : Nat :=
  let c0_i32_2654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.subi v2 c4_i32_28
  let c1_i32_2653 : BitVec 32 := 1#32
  let v2961 : BitVec 32 := Scalar.muli v57 c1_i32_2653
  let v2962 : BitVec 32 := Scalar.addi c0_i32_2654 v2961
  v2962.toNat
def k0_dev26 (d0 : Dev nD) : Nat :=
  let c0_i32_2664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.subi v2 c4_i32_28
  let c1_i32_2663 : BitVec 32 := 1#32
  let v2971 : BitVec 32 := Scalar.muli v57 c1_i32_2663
  let v2972 : BitVec 32 := Scalar.addi c0_i32_2664 v2971
  v2972.toNat
def k0_dev27 (d0 : Dev nD) : Nat :=
  let c0_i32_2674 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.subi v2 c4_i32_28
  let c1_i32_2673 : BitVec 32 := 1#32
  let v2981 : BitVec 32 := Scalar.muli v57 c1_i32_2673
  let v2982 : BitVec 32 := Scalar.addi c0_i32_2674 v2981
  v2982.toNat
def k0_dev28 (d0 : Dev nD) : Nat :=
  let c0_i32_2684 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.subi v2 c4_i32_28
  let c1_i32_2683 : BitVec 32 := 1#32
  let v2991 : BitVec 32 := Scalar.muli v57 c1_i32_2683
  let v2992 : BitVec 32 := Scalar.addi c0_i32_2684 v2991
  v2992.toNat
def k0_dev29 (d0 : Dev nD) : Nat :=
  let c0_i32_75 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_74 : BitVec 32 := 1#32
  let v113 : BitVec 32 := Scalar.muli v42 c1_i32_74
  let v114 : BitVec 32 := Scalar.addi c0_i32_75 v113
  v114.toNat
def k0_dev30 (d0 : Dev nD) : Nat :=
  let c0_i32_85 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_84 : BitVec 32 := 1#32
  let v123 : BitVec 32 := Scalar.muli v55 c1_i32_84
  let v124 : BitVec 32 := Scalar.addi c0_i32_85 v123
  v124.toNat
def k0_dev31 (d0 : Dev nD) : Nat :=
  let c0_i32_95 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_94 : BitVec 32 := 1#32
  let v133 : BitVec 32 := Scalar.muli v42 c1_i32_94
  let v134 : BitVec 32 := Scalar.addi c0_i32_95 v133
  v134.toNat
def k0_dev32 (d0 : Dev nD) : Nat :=
  let c0_i32_105 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_104 : BitVec 32 := 1#32
  let v143 : BitVec 32 := Scalar.muli v55 c1_i32_104
  let v144 : BitVec 32 := Scalar.addi c0_i32_105 v143
  v144.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v171 : BitVec 32 := Scalar.muli v2 c256_i32
  let v172 : Index := Scalar.indexCast v171
  let c0_118 : Index := 0#32
  ![v172.toNat, 0]
def k0_dev33 (d0 : Dev nD) : Nat :=
  let c0_i32_134 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_133 : BitVec 32 := 1#32
  let v182 : BitVec 32 := Scalar.muli v42 c1_i32_133
  let v183 : BitVec 32 := Scalar.addi c0_i32_134 v182
  v183.toNat
def k0_dev34 (d0 : Dev nD) : Nat :=
  let c0_i32_154 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_153 : BitVec 32 := 1#32
  let v200 : BitVec 32 := Scalar.muli v55 c1_i32_153
  let v201 : BitVec 32 := Scalar.addi c0_i32_154 v200
  v201.toNat
def k0_dev35 (d0 : Dev nD) : Nat :=
  let c0_i32_174 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_173 : BitVec 32 := 1#32
  let v218 : BitVec 32 := Scalar.muli v42 c1_i32_173
  let v219 : BitVec 32 := Scalar.addi c0_i32_174 v218
  v219.toNat
def k0_dev36 (d0 : Dev nD) : Nat :=
  let c0_i32_194 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_193 : BitVec 32 := 1#32
  let v236 : BitVec 32 := Scalar.muli v55 c1_i32_193
  let v237 : BitVec 32 := Scalar.addi c0_i32_194 v236
  v237.toNat
def k0_off2 (d0 : Dev nD) (c0_i32_200 : BitVec 32) (c0_i32_228 : BitVec 32) : Fin 2 → Nat :=
  let c4_i32_199 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v246 : BitVec 32 := Scalar.muli c4_i32_199 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v247 : BitVec 32 := Scalar.subi v29 c0_i32_200
  let c1_i32_201 : BitVec 32 := 1#32
  let v248 : BitVec 32 := Scalar.subi v247 c1_i32_201
  let c4_i32_202 : BitVec 32 := 4#32
  let c0_i32_203 : BitVec 32 := 0#32
  let v249 : BitVec 1 := Scalar.cmpi .eq c4_i32_202 c0_i32_203
  let c1_i32_204 : BitVec 32 := 1#32
  let v250 : BitVec 32 := Scalar.select v249 c1_i32_204 c4_i32_202
  let v251 : BitVec 32 := Scalar.remsi v248 v250
  let c0_i32_206 : BitVec 32 := 0#32
  let v253 : BitVec 1 := Scalar.cmpi .slt v251 c0_i32_206
  let c0_i32_207 : BitVec 32 := 0#32
  let v254 : BitVec 1 := Scalar.cmpi .slt v250 c0_i32_207
  let v255 : BitVec 1 := Scalar.xori v253 v254
  let c0_i32_205 : BitVec 32 := 0#32
  let v252 : BitVec 1 := Scalar.cmpi .ne v251 c0_i32_205
  let v256 : BitVec 1 := Scalar.andi v255 v252
  let v257 : BitVec 32 := Scalar.addi v251 v250
  let v258 : BitVec 32 := Scalar.select v256 v257 v251
  let v259 : BitVec 32 := Scalar.addi v246 v258
  let c256_i32_227 : BitVec 32 := 256#32
  let v292 : BitVec 32 := Scalar.muli v259 c256_i32_227
  let v293 : BitVec 32 := Scalar.addi v292 c0_i32_228
  let v294 : Index := Scalar.indexCast v293
  let c0_229 : Index := 0#32
  ![v294.toNat, 0]
def k0_off3 (d0 : Dev nD) (c0_i32_209 : BitVec 32) (c128_i32 : BitVec 32) : Fin 2 → Nat :=
  let c4_i32_208 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v260 : BitVec 32 := Scalar.muli c4_i32_208 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v261 : BitVec 32 := Scalar.addi v29 c0_i32_209
  let c1_i32_210 : BitVec 32 := 1#32
  let v262 : BitVec 32 := Scalar.addi v261 c1_i32_210
  let c4_i32_211 : BitVec 32 := 4#32
  let c0_i32_212 : BitVec 32 := 0#32
  let v263 : BitVec 1 := Scalar.cmpi .eq c4_i32_211 c0_i32_212
  let c1_i32_213 : BitVec 32 := 1#32
  let v264 : BitVec 32 := Scalar.select v263 c1_i32_213 c4_i32_211
  let v265 : BitVec 32 := Scalar.remsi v262 v264
  let c0_i32_215 : BitVec 32 := 0#32
  let v267 : BitVec 1 := Scalar.cmpi .slt v265 c0_i32_215
  let c0_i32_216 : BitVec 32 := 0#32
  let v268 : BitVec 1 := Scalar.cmpi .slt v264 c0_i32_216
  let v269 : BitVec 1 := Scalar.xori v267 v268
  let c0_i32_214 : BitVec 32 := 0#32
  let v266 : BitVec 1 := Scalar.cmpi .ne v265 c0_i32_214
  let v270 : BitVec 1 := Scalar.andi v269 v266
  let v271 : BitVec 32 := Scalar.addi v265 v264
  let v272 : BitVec 32 := Scalar.select v270 v271 v265
  let v273 : BitVec 32 := Scalar.addi v260 v272
  let c256_i32_252 : BitVec 32 := 256#32
  let v336 : BitVec 32 := Scalar.muli v273 c256_i32_252
  let v337 : BitVec 32 := Scalar.addi v336 c128_i32
  let v338 : Index := Scalar.indexCast v337
  let c0_253 : Index := 0#32
  ![v338.toNat, 0]
def k0_dev37 (d0 : Dev nD) : Nat :=
  let c0_i32_304 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_303 : BitVec 32 := 1#32
  let v386 : BitVec 32 := Scalar.muli v55 c1_i32_303
  let v387 : BitVec 32 := Scalar.addi c0_i32_304 v386
  v387.toNat
def k0_dev38 (d0 : Dev nD) : Nat :=
  let c0_i32_307 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_306 : BitVec 32 := 1#32
  let v388 : BitVec 32 := Scalar.muli v55 c1_i32_306
  let v389 : BitVec 32 := Scalar.addi c0_i32_307 v388
  v389.toNat
def k0_dev39 (d0 : Dev nD) : Nat :=
  let c0_i32_310 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_309 : BitVec 32 := 1#32
  let v390 : BitVec 32 := Scalar.muli v42 c1_i32_309
  let v391 : BitVec 32 := Scalar.addi c0_i32_310 v390
  v391.toNat
def k0_dev40 (d0 : Dev nD) : Nat :=
  let c0_i32_313 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_312 : BitVec 32 := 1#32
  let v392 : BitVec 32 := Scalar.muli v42 c1_i32_312
  let v393 : BitVec 32 := Scalar.addi c0_i32_313 v392
  v393.toNat
def k0_dev41 (d0 : Dev nD) : Nat :=
  let c0_i32_329 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_328 : BitVec 32 := 1#32
  let v402 : BitVec 32 := Scalar.muli v42 c1_i32_328
  let v403 : BitVec 32 := Scalar.addi c0_i32_329 v402
  v403.toNat
def k0_dev42 (d0 : Dev nD) : Nat :=
  let c0_i32_349 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_348 : BitVec 32 := 1#32
  let v420 : BitVec 32 := Scalar.muli v55 c1_i32_348
  let v421 : BitVec 32 := Scalar.addi c0_i32_349 v420
  v421.toNat
def k0_dev43 (d0 : Dev nD) : Nat :=
  let c0_i32_369 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_368 : BitVec 32 := 1#32
  let v438 : BitVec 32 := Scalar.muli v42 c1_i32_368
  let v439 : BitVec 32 := Scalar.addi c0_i32_369 v438
  v439.toNat
def k0_dev44 (d0 : Dev nD) : Nat :=
  let c0_i32_389 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_388 : BitVec 32 := 1#32
  let v456 : BitVec 32 := Scalar.muli v55 c1_i32_388
  let v457 : BitVec 32 := Scalar.addi c0_i32_389 v456
  v457.toNat
def k0_dev45 (d0 : Dev nD) : Nat :=
  let c0_i32_501 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_500 : BitVec 32 := 1#32
  let v606 : BitVec 32 := Scalar.muli v55 c1_i32_500
  let v607 : BitVec 32 := Scalar.addi c0_i32_501 v606
  v607.toNat
def k0_dev46 (d0 : Dev nD) : Nat :=
  let c0_i32_504 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_503 : BitVec 32 := 1#32
  let v608 : BitVec 32 := Scalar.muli v55 c1_i32_503
  let v609 : BitVec 32 := Scalar.addi c0_i32_504 v608
  v609.toNat
def k0_dev47 (d0 : Dev nD) : Nat :=
  let c0_i32_507 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_506 : BitVec 32 := 1#32
  let v610 : BitVec 32 := Scalar.muli v42 c1_i32_506
  let v611 : BitVec 32 := Scalar.addi c0_i32_507 v610
  v611.toNat
def k0_dev48 (d0 : Dev nD) : Nat :=
  let c0_i32_510 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_509 : BitVec 32 := 1#32
  let v612 : BitVec 32 := Scalar.muli v42 c1_i32_509
  let v613 : BitVec 32 := Scalar.addi c0_i32_510 v612
  v613.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_523 : BitVec 32 := 1#32
  let v632 : BitVec 1 := Scalar.cmpi .eq v19 c1_i32_523
  let v633 : BitVec 32 := Scalar.extui v632
  let c0_i32_524 : BitVec 32 := 0#32
  let v634 : BitVec 1 := Scalar.cmpi .ne v633 c0_i32_524
  v634

def k0_dev49 (d0 : Dev nD) : Nat :=
  let c0_i32_2654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c1_i32_2653 : BitVec 32 := 1#32
  let v2961 : BitVec 32 := Scalar.muli v56 c1_i32_2653
  let v2962 : BitVec 32 := Scalar.addi c0_i32_2654 v2961
  v2962.toNat
def k0_dev50 (d0 : Dev nD) : Nat :=
  let c0_i32_2663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c1_i32_2662 : BitVec 32 := 1#32
  let v2971 : BitVec 32 := Scalar.muli v56 c1_i32_2662
  let v2972 : BitVec 32 := Scalar.addi c0_i32_2663 v2971
  v2972.toNat
def k0_dev51 (d0 : Dev nD) : Nat :=
  let c0_i32_2672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c1_i32_2671 : BitVec 32 := 1#32
  let v2981 : BitVec 32 := Scalar.muli v56 c1_i32_2671
  let v2982 : BitVec 32 := Scalar.addi c0_i32_2672 v2981
  v2982.toNat
def k0_dev52 (d0 : Dev nD) : Nat :=
  let c0_i32_2681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c1_i32_2680 : BitVec 32 := 1#32
  let v2991 : BitVec 32 := Scalar.muli v56 c1_i32_2680
  let v2992 : BitVec 32 := Scalar.addi c0_i32_2681 v2991
  v2992.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_525 : BitVec 32 := 2#32
  let v635 : BitVec 1 := Scalar.cmpi .eq v19 c2_i32_525
  let v636 : BitVec 32 := Scalar.extui v635
  let c0_i32_526 : BitVec 32 := 0#32
  let v637 : BitVec 1 := Scalar.cmpi .ne v636 c0_i32_526
  v637

def k0_dev53 (d0 : Dev nD) : Nat :=
  let c0_i32_2654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c1_i32_2653 : BitVec 32 := 1#32
  let v2961 : BitVec 32 := Scalar.muli v56 c1_i32_2653
  let v2962 : BitVec 32 := Scalar.addi c0_i32_2654 v2961
  v2962.toNat
def k0_dev54 (d0 : Dev nD) : Nat :=
  let c0_i32_2663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c1_i32_2662 : BitVec 32 := 1#32
  let v2971 : BitVec 32 := Scalar.muli v56 c1_i32_2662
  let v2972 : BitVec 32 := Scalar.addi c0_i32_2663 v2971
  v2972.toNat
def k0_dev55 (d0 : Dev nD) : Nat :=
  let c0_i32_2672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c1_i32_2671 : BitVec 32 := 1#32
  let v2981 : BitVec 32 := Scalar.muli v56 c1_i32_2671
  let v2982 : BitVec 32 := Scalar.addi c0_i32_2672 v2981
  v2982.toNat
def k0_dev56 (d0 : Dev nD) : Nat :=
  let c0_i32_2681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c1_i32_2680 : BitVec 32 := 1#32
  let v2991 : BitVec 32 := Scalar.muli v56 c1_i32_2680
  let v2992 : BitVec 32 := Scalar.addi c0_i32_2681 v2991
  v2992.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_527 : BitVec 32 := 1#32
  let v638 : BitVec 1 := Scalar.cmpi .eq v19 c1_i32_527
  let v639 : BitVec 32 := Scalar.extui v638
  let c0_i32_528 : BitVec 32 := 0#32
  let v640 : BitVec 1 := Scalar.cmpi .ne v639 c0_i32_528
  v640

def k0_dev57 (d0 : Dev nD) : Nat :=
  let c0_i32_2654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.subi v2 c4_i32_28
  let c1_i32_2653 : BitVec 32 := 1#32
  let v2961 : BitVec 32 := Scalar.muli v57 c1_i32_2653
  let v2962 : BitVec 32 := Scalar.addi c0_i32_2654 v2961
  v2962.toNat
def k0_dev58 (d0 : Dev nD) : Nat :=
  let c0_i32_2663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.subi v2 c4_i32_28
  let c1_i32_2662 : BitVec 32 := 1#32
  let v2971 : BitVec 32 := Scalar.muli v57 c1_i32_2662
  let v2972 : BitVec 32 := Scalar.addi c0_i32_2663 v2971
  v2972.toNat
def k0_dev59 (d0 : Dev nD) : Nat :=
  let c0_i32_2672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.subi v2 c4_i32_28
  let c1_i32_2671 : BitVec 32 := 1#32
  let v2981 : BitVec 32 := Scalar.muli v57 c1_i32_2671
  let v2982 : BitVec 32 := Scalar.addi c0_i32_2672 v2981
  v2982.toNat
def k0_dev60 (d0 : Dev nD) : Nat :=
  let c0_i32_2681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.subi v2 c4_i32_28
  let c1_i32_2680 : BitVec 32 := 1#32
  let v2991 : BitVec 32 := Scalar.muli v57 c1_i32_2680
  let v2992 : BitVec 32 := Scalar.addi c0_i32_2681 v2991
  v2992.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_529 : BitVec 32 := 2#32
  let v641 : BitVec 1 := Scalar.cmpi .eq v19 c2_i32_529
  let v642 : BitVec 32 := Scalar.extui v641
  let c0_i32_530 : BitVec 32 := 0#32
  let v643 : BitVec 1 := Scalar.cmpi .ne v642 c0_i32_530
  v643

def k0_dev61 (d0 : Dev nD) : Nat :=
  let c0_i32_2654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.subi v2 c4_i32_28
  let c1_i32_2653 : BitVec 32 := 1#32
  let v2961 : BitVec 32 := Scalar.muli v57 c1_i32_2653
  let v2962 : BitVec 32 := Scalar.addi c0_i32_2654 v2961
  v2962.toNat
def k0_dev62 (d0 : Dev nD) : Nat :=
  let c0_i32_2663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.subi v2 c4_i32_28
  let c1_i32_2662 : BitVec 32 := 1#32
  let v2971 : BitVec 32 := Scalar.muli v57 c1_i32_2662
  let v2972 : BitVec 32 := Scalar.addi c0_i32_2663 v2971
  v2972.toNat
def k0_dev63 (d0 : Dev nD) : Nat :=
  let c0_i32_2672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.subi v2 c4_i32_28
  let c1_i32_2671 : BitVec 32 := 1#32
  let v2981 : BitVec 32 := Scalar.muli v57 c1_i32_2671
  let v2982 : BitVec 32 := Scalar.addi c0_i32_2672 v2981
  v2982.toNat
def k0_dev64 (d0 : Dev nD) : Nat :=
  let c0_i32_2681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.subi v2 c4_i32_28
  let c1_i32_2680 : BitVec 32 := 1#32
  let v2991 : BitVec 32 := Scalar.muli v57 c1_i32_2680
  let v2992 : BitVec 32 := Scalar.addi c0_i32_2681 v2991
  v2992.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_532 : BitVec 32 := 1#32
  let v645 : BitVec 1 := Scalar.cmpi .eq v19 c1_i32_532
  let v646 : BitVec 32 := Scalar.extui v645
  let c0_i32_533 : BitVec 32 := 0#32
  let v647 : BitVec 1 := Scalar.cmpi .ne v646 c0_i32_533
  v647

def k0_off4 (d0 : Dev nD) (c0_i32_2660 : BitVec 32) : Fin 2 → Nat :=
  let c0_i32_531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v644 : BitVec 32 := Scalar.addi c0_i32_531 v29
  let c256_i32_2659 : BitVec 32 := 256#32
  let v2979 : BitVec 32 := Scalar.muli v644 c256_i32_2659
  let v2980 : BitVec 32 := Scalar.addi v2979 c0_i32_2660
  let v2981 : Index := Scalar.indexCast v2980
  let c0_2661 : Index := 0#32
  ![v2981.toNat, 0]
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_535 : BitVec 32 := 2#32
  let v649 : BitVec 1 := Scalar.cmpi .eq v19 c2_i32_535
  let v650 : BitVec 32 := Scalar.extui v649
  let c0_i32_536 : BitVec 32 := 0#32
  let v651 : BitVec 1 := Scalar.cmpi .ne v650 c0_i32_536
  v651

def k0_off5 (d0 : Dev nD) (c0_i32_2660 : BitVec 32) : Fin 2 → Nat :=
  let c4_i32_534 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v648 : BitVec 32 := Scalar.addi c4_i32_534 v29
  let c256_i32_2659 : BitVec 32 := 256#32
  let v2979 : BitVec 32 := Scalar.muli v648 c256_i32_2659
  let v2980 : BitVec 32 := Scalar.addi v2979 c0_i32_2660
  let v2981 : Index := Scalar.indexCast v2980
  let c0_2661 : Index := 0#32
  ![v2981.toNat, 0]
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_537 : BitVec 32 := 3#32
  let v653 : BitVec 1 := Scalar.cmpi .eq v19 c3_i32_537
  let v654 : BitVec 32 := Scalar.extui v653
  let c0_i32_538 : BitVec 32 := 0#32
  let v655 : BitVec 1 := Scalar.cmpi .ne v654 c0_i32_538
  v655

def k0_off6 (d0 : Dev nD) (c0_i32_2660 : BitVec 32) : Fin 2 → Nat :=
  let c8_i32 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v652 : BitVec 32 := Scalar.addi c8_i32 v29
  let c256_i32_2659 : BitVec 32 := 256#32
  let v2979 : BitVec 32 := Scalar.muli v652 c256_i32_2659
  let v2980 : BitVec 32 := Scalar.addi v2979 c0_i32_2660
  let v2981 : Index := Scalar.indexCast v2980
  let c0_2661 : Index := 0#32
  ![v2981.toNat, 0]
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_540 : BitVec 32 := 0#32
  let v657 : BitVec 1 := Scalar.cmpi .eq v19 c0_i32_540
  let v658 : BitVec 32 := Scalar.extui v657
  let c0_i32_541 : BitVec 32 := 0#32
  let v659 : BitVec 1 := Scalar.cmpi .ne v658 c0_i32_541
  v659

def k0_off7 (d0 : Dev nD) (c0_i32_2660 : BitVec 32) : Fin 2 → Nat :=
  let c4_i32_539 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v656 : BitVec 32 := Scalar.addi c4_i32_539 v29
  let c256_i32_2659 : BitVec 32 := 256#32
  let v2979 : BitVec 32 := Scalar.muli v656 c256_i32_2659
  let v2980 : BitVec 32 := Scalar.addi v2979 c0_i32_2660
  let v2981 : Index := Scalar.indexCast v2980
  let c0_2661 : Index := 0#32
  ![v2981.toNat, 0]
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_543 : BitVec 32 := 1#32
  let v661 : BitVec 1 := Scalar.cmpi .eq v19 c1_i32_543
  let v662 : BitVec 32 := Scalar.extui v661
  let c0_i32_544 : BitVec 32 := 0#32
  let v663 : BitVec 1 := Scalar.cmpi .ne v662 c0_i32_544
  v663

def k0_off8 (d0 : Dev nD) (c0_i32_2660 : BitVec 32) : Fin 2 → Nat :=
  let c8_i32_542 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v660 : BitVec 32 := Scalar.addi c8_i32_542 v29
  let c256_i32_2659 : BitVec 32 := 256#32
  let v2979 : BitVec 32 := Scalar.muli v660 c256_i32_2659
  let v2980 : BitVec 32 := Scalar.addi v2979 c0_i32_2660
  let v2981 : Index := Scalar.indexCast v2980
  let c0_2661 : Index := 0#32
  ![v2981.toNat, 0]
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_545 : BitVec 32 := 2#32
  let v665 : BitVec 1 := Scalar.cmpi .eq v19 c2_i32_545
  let v666 : BitVec 32 := Scalar.extui v665
  let c0_i32_546 : BitVec 32 := 0#32
  let v667 : BitVec 1 := Scalar.cmpi .ne v666 c0_i32_546
  v667

def k0_off9 (d0 : Dev nD) (c0_i32_2660 : BitVec 32) : Fin 2 → Nat :=
  let c12_i32 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v664 : BitVec 32 := Scalar.addi c12_i32 v29
  let c256_i32_2659 : BitVec 32 := 256#32
  let v2979 : BitVec 32 := Scalar.muli v664 c256_i32_2659
  let v2980 : BitVec 32 := Scalar.addi v2979 c0_i32_2660
  let v2981 : Index := Scalar.indexCast v2980
  let c0_2661 : Index := 0#32
  ![v2981.toNat, 0]
def k0_dev65 (d0 : Dev nD) : Nat :=
  let c0_i32_564 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_563 : BitVec 32 := 1#32
  let v676 : BitVec 32 := Scalar.muli v42 c1_i32_563
  let v677 : BitVec 32 := Scalar.addi c0_i32_564 v676
  v677.toNat
def k0_dev66 (d0 : Dev nD) : Nat :=
  let c0_i32_586 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_585 : BitVec 32 := 1#32
  let v694 : BitVec 32 := Scalar.muli v55 c1_i32_585
  let v695 : BitVec 32 := Scalar.addi c0_i32_586 v694
  v695.toNat
def k0_dev67 (d0 : Dev nD) : Nat :=
  let c0_i32_608 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_607 : BitVec 32 := 1#32
  let v712 : BitVec 32 := Scalar.muli v42 c1_i32_607
  let v713 : BitVec 32 := Scalar.addi c0_i32_608 v712
  v713.toNat
def k0_dev68 (d0 : Dev nD) : Nat :=
  let c0_i32_630 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_629 : BitVec 32 := 1#32
  let v730 : BitVec 32 := Scalar.muli v55 c1_i32_629
  let v731 : BitVec 32 := Scalar.addi c0_i32_630 v730
  v731.toNat
def k0_dev69 (d0 : Dev nD) : Nat :=
  let c0_i32_706 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_705 : BitVec 32 := 1#32
  let v856 : BitVec 32 := Scalar.muli v55 c1_i32_705
  let v857 : BitVec 32 := Scalar.addi c0_i32_706 v856
  v857.toNat
def k0_dev70 (d0 : Dev nD) : Nat :=
  let c0_i32_709 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_708 : BitVec 32 := 1#32
  let v858 : BitVec 32 := Scalar.muli v55 c1_i32_708
  let v859 : BitVec 32 := Scalar.addi c0_i32_709 v858
  v859.toNat
def k0_dev71 (d0 : Dev nD) : Nat :=
  let c0_i32_712 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_711 : BitVec 32 := 1#32
  let v860 : BitVec 32 := Scalar.muli v42 c1_i32_711
  let v861 : BitVec 32 := Scalar.addi c0_i32_712 v860
  v861.toNat
def k0_dev72 (d0 : Dev nD) : Nat :=
  let c0_i32_715 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_714 : BitVec 32 := 1#32
  let v862 : BitVec 32 := Scalar.muli v42 c1_i32_714
  let v863 : BitVec 32 := Scalar.addi c0_i32_715 v862
  v863.toNat
def k0_dev73 (d0 : Dev nD) : Nat :=
  let c0_i32_733 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_732 : BitVec 32 := 1#32
  let v872 : BitVec 32 := Scalar.muli v42 c1_i32_732
  let v873 : BitVec 32 := Scalar.addi c0_i32_733 v872
  v873.toNat
def k0_dev74 (d0 : Dev nD) : Nat :=
  let c0_i32_755 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_754 : BitVec 32 := 1#32
  let v890 : BitVec 32 := Scalar.muli v55 c1_i32_754
  let v891 : BitVec 32 := Scalar.addi c0_i32_755 v890
  v891.toNat
def k0_dev75 (d0 : Dev nD) : Nat :=
  let c0_i32_777 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_776 : BitVec 32 := 1#32
  let v908 : BitVec 32 := Scalar.muli v42 c1_i32_776
  let v909 : BitVec 32 := Scalar.addi c0_i32_777 v908
  v909.toNat
def k0_dev76 (d0 : Dev nD) : Nat :=
  let c0_i32_799 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_798 : BitVec 32 := 1#32
  let v926 : BitVec 32 := Scalar.muli v55 c1_i32_798
  let v927 : BitVec 32 := Scalar.addi c0_i32_799 v926
  v927.toNat
def k0_off10 (d0 : Dev nD) (c0_i32_808 : BitVec 32) (c0_i32_836 : BitVec 32) : Fin 2 → Nat :=
  let c4_i32_807 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_804 : BitVec 32 := 0#32
  let v936 : BitVec 1 := Scalar.cmpi .eq v19 c0_i32_804
  let c1_i32_806 : BitVec 32 := 1#32
  let c1_i32_805 : BitVec 32 := 1#32
  let v937 : BitVec 32 := Scalar.subi v19 c1_i32_805
  let v938 : BitVec 32 := Scalar.select v936 c1_i32_806 v937
  let v939 : BitVec 32 := Scalar.muli c4_i32_807 v938
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v940 : BitVec 32 := Scalar.subi v29 c0_i32_808
  let c1_i32_809 : BitVec 32 := 1#32
  let v941 : BitVec 32 := Scalar.subi v940 c1_i32_809
  let c4_i32_810 : BitVec 32 := 4#32
  let c0_i32_811 : BitVec 32 := 0#32
  let v942 : BitVec 1 := Scalar.cmpi .eq c4_i32_810 c0_i32_811
  let c1_i32_812 : BitVec 32 := 1#32
  let v943 : BitVec 32 := Scalar.select v942 c1_i32_812 c4_i32_810
  let v944 : BitVec 32 := Scalar.remsi v941 v943
  let c0_i32_814 : BitVec 32 := 0#32
  let v946 : BitVec 1 := Scalar.cmpi .slt v944 c0_i32_814
  let c0_i32_815 : BitVec 32 := 0#32
  let v947 : BitVec 1 := Scalar.cmpi .slt v943 c0_i32_815
  let v948 : BitVec 1 := Scalar.xori v946 v947
  let c0_i32_813 : BitVec 32 := 0#32
  let v945 : BitVec 1 := Scalar.cmpi .ne v944 c0_i32_813
  let v949 : BitVec 1 := Scalar.andi v948 v945
  let v950 : BitVec 32 := Scalar.addi v944 v943
  let v951 : BitVec 32 := Scalar.select v949 v950 v944
  let v952 : BitVec 32 := Scalar.addi v939 v951
  let c256_i32_835 : BitVec 32 := 256#32
  let v985 : BitVec 32 := Scalar.muli v952 c256_i32_835
  let v986 : BitVec 32 := Scalar.addi v985 c0_i32_836
  let v987 : Index := Scalar.indexCast v986
  let c0_837 : Index := 0#32
  ![v987.toNat, 0]
def k0_off11 (d0 : Dev nD) (c0_i32_817 : BitVec 32) (c128_i32_862 : BitVec 32) : Fin 2 → Nat :=
  let c4_i32_816 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_804 : BitVec 32 := 0#32
  let v936 : BitVec 1 := Scalar.cmpi .eq v19 c0_i32_804
  let c1_i32_806 : BitVec 32 := 1#32
  let c1_i32_805 : BitVec 32 := 1#32
  let v937 : BitVec 32 := Scalar.subi v19 c1_i32_805
  let v938 : BitVec 32 := Scalar.select v936 c1_i32_806 v937
  let v953 : BitVec 32 := Scalar.muli c4_i32_816 v938
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v954 : BitVec 32 := Scalar.addi v29 c0_i32_817
  let c1_i32_818 : BitVec 32 := 1#32
  let v955 : BitVec 32 := Scalar.addi v954 c1_i32_818
  let c4_i32_819 : BitVec 32 := 4#32
  let c0_i32_820 : BitVec 32 := 0#32
  let v956 : BitVec 1 := Scalar.cmpi .eq c4_i32_819 c0_i32_820
  let c1_i32_821 : BitVec 32 := 1#32
  let v957 : BitVec 32 := Scalar.select v956 c1_i32_821 c4_i32_819
  let v958 : BitVec 32 := Scalar.remsi v955 v957
  let c0_i32_823 : BitVec 32 := 0#32
  let v960 : BitVec 1 := Scalar.cmpi .slt v958 c0_i32_823
  let c0_i32_824 : BitVec 32 := 0#32
  let v961 : BitVec 1 := Scalar.cmpi .slt v957 c0_i32_824
  let v962 : BitVec 1 := Scalar.xori v960 v961
  let c0_i32_822 : BitVec 32 := 0#32
  let v959 : BitVec 1 := Scalar.cmpi .ne v958 c0_i32_822
  let v963 : BitVec 1 := Scalar.andi v962 v959
  let v964 : BitVec 32 := Scalar.addi v958 v957
  let v965 : BitVec 32 := Scalar.select v963 v964 v958
  let v966 : BitVec 32 := Scalar.addi v953 v965
  let c256_i32_861 : BitVec 32 := 256#32
  let v1029 : BitVec 32 := Scalar.muli v966 c256_i32_861
  let v1030 : BitVec 32 := Scalar.addi v1029 c128_i32_862
  let v1031 : Index := Scalar.indexCast v1030
  let c0_863 : Index := 0#32
  ![v1031.toNat, 0]
def k0_dev77 (d0 : Dev nD) : Nat :=
  let c0_i32_915 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_914 : BitVec 32 := 1#32
  let v1079 : BitVec 32 := Scalar.muli v55 c1_i32_914
  let v1080 : BitVec 32 := Scalar.addi c0_i32_915 v1079
  v1080.toNat
def k0_dev78 (d0 : Dev nD) : Nat :=
  let c0_i32_918 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_917 : BitVec 32 := 1#32
  let v1081 : BitVec 32 := Scalar.muli v55 c1_i32_917
  let v1082 : BitVec 32 := Scalar.addi c0_i32_918 v1081
  v1082.toNat
def k0_dev79 (d0 : Dev nD) : Nat :=
  let c0_i32_921 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_920 : BitVec 32 := 1#32
  let v1083 : BitVec 32 := Scalar.muli v42 c1_i32_920
  let v1084 : BitVec 32 := Scalar.addi c0_i32_921 v1083
  v1084.toNat
def k0_dev80 (d0 : Dev nD) : Nat :=
  let c0_i32_924 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_923 : BitVec 32 := 1#32
  let v1085 : BitVec 32 := Scalar.muli v42 c1_i32_923
  let v1086 : BitVec 32 := Scalar.addi c0_i32_924 v1085
  v1086.toNat
def k0_dev81 (d0 : Dev nD) : Nat :=
  let c0_i32_942 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_941 : BitVec 32 := 1#32
  let v1095 : BitVec 32 := Scalar.muli v42 c1_i32_941
  let v1096 : BitVec 32 := Scalar.addi c0_i32_942 v1095
  v1096.toNat
def k0_dev82 (d0 : Dev nD) : Nat :=
  let c0_i32_964 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_963 : BitVec 32 := 1#32
  let v1113 : BitVec 32 := Scalar.muli v55 c1_i32_963
  let v1114 : BitVec 32 := Scalar.addi c0_i32_964 v1113
  v1114.toNat
def k0_dev83 (d0 : Dev nD) : Nat :=
  let c0_i32_986 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_985 : BitVec 32 := 1#32
  let v1131 : BitVec 32 := Scalar.muli v42 c1_i32_985
  let v1132 : BitVec 32 := Scalar.addi c0_i32_986 v1131
  v1132.toNat
def k0_dev84 (d0 : Dev nD) : Nat :=
  let c0_i32_1008 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1007 : BitVec 32 := 1#32
  let v1149 : BitVec 32 := Scalar.muli v55 c1_i32_1007
  let v1150 : BitVec 32 := Scalar.addi c0_i32_1008 v1149
  v1150.toNat
def k0_dev85 (d0 : Dev nD) : Nat :=
  let c0_i32_1124 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1123 : BitVec 32 := 1#32
  let v1302 : BitVec 32 := Scalar.muli v55 c1_i32_1123
  let v1303 : BitVec 32 := Scalar.addi c0_i32_1124 v1302
  v1303.toNat
def k0_dev86 (d0 : Dev nD) : Nat :=
  let c0_i32_1127 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1126 : BitVec 32 := 1#32
  let v1304 : BitVec 32 := Scalar.muli v55 c1_i32_1126
  let v1305 : BitVec 32 := Scalar.addi c0_i32_1127 v1304
  v1305.toNat
def k0_dev87 (d0 : Dev nD) : Nat :=
  let c0_i32_1130 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1129 : BitVec 32 := 1#32
  let v1306 : BitVec 32 := Scalar.muli v42 c1_i32_1129
  let v1307 : BitVec 32 := Scalar.addi c0_i32_1130 v1306
  v1307.toNat
def k0_dev88 (d0 : Dev nD) : Nat :=
  let c0_i32_1133 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1132 : BitVec 32 := 1#32
  let v1308 : BitVec 32 := Scalar.muli v42 c1_i32_1132
  let v1309 : BitVec 32 := Scalar.addi c0_i32_1133 v1308
  v1309.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1142 : BitVec 32 := 2#32
  let v1322 : BitVec 1 := Scalar.cmpi .eq v19 c2_i32_1142
  let v1323 : BitVec 32 := Scalar.extui v1322
  let c0_i32_1143 : BitVec 32 := 0#32
  let v1324 : BitVec 1 := Scalar.cmpi .ne v1323 c0_i32_1143
  v1324

def k0_dev89 (d0 : Dev nD) : Nat :=
  let c0_i32_2654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c1_i32_2653 : BitVec 32 := 1#32
  let v2961 : BitVec 32 := Scalar.muli v56 c1_i32_2653
  let v2962 : BitVec 32 := Scalar.addi c0_i32_2654 v2961
  v2962.toNat
def k0_dev90 (d0 : Dev nD) : Nat :=
  let c0_i32_2663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c1_i32_2662 : BitVec 32 := 1#32
  let v2971 : BitVec 32 := Scalar.muli v56 c1_i32_2662
  let v2972 : BitVec 32 := Scalar.addi c0_i32_2663 v2971
  v2972.toNat
def k0_dev91 (d0 : Dev nD) : Nat :=
  let c0_i32_2672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c1_i32_2671 : BitVec 32 := 1#32
  let v2981 : BitVec 32 := Scalar.muli v56 c1_i32_2671
  let v2982 : BitVec 32 := Scalar.addi c0_i32_2672 v2981
  v2982.toNat
def k0_dev92 (d0 : Dev nD) : Nat :=
  let c0_i32_2681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c1_i32_2680 : BitVec 32 := 1#32
  let v2991 : BitVec 32 := Scalar.muli v56 c1_i32_2680
  let v2992 : BitVec 32 := Scalar.addi c0_i32_2681 v2991
  v2992.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1144 : BitVec 32 := 1#32
  let v1325 : BitVec 1 := Scalar.cmpi .eq v19 c1_i32_1144
  let v1326 : BitVec 32 := Scalar.extui v1325
  let c0_i32_1145 : BitVec 32 := 0#32
  let v1327 : BitVec 1 := Scalar.cmpi .ne v1326 c0_i32_1145
  v1327

def k0_dev93 (d0 : Dev nD) : Nat :=
  let c0_i32_2654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.subi v2 c4_i32_28
  let c1_i32_2653 : BitVec 32 := 1#32
  let v2961 : BitVec 32 := Scalar.muli v57 c1_i32_2653
  let v2962 : BitVec 32 := Scalar.addi c0_i32_2654 v2961
  v2962.toNat
def k0_dev94 (d0 : Dev nD) : Nat :=
  let c0_i32_2663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.subi v2 c4_i32_28
  let c1_i32_2662 : BitVec 32 := 1#32
  let v2971 : BitVec 32 := Scalar.muli v57 c1_i32_2662
  let v2972 : BitVec 32 := Scalar.addi c0_i32_2663 v2971
  v2972.toNat
def k0_dev95 (d0 : Dev nD) : Nat :=
  let c0_i32_2672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.subi v2 c4_i32_28
  let c1_i32_2671 : BitVec 32 := 1#32
  let v2981 : BitVec 32 := Scalar.muli v57 c1_i32_2671
  let v2982 : BitVec 32 := Scalar.addi c0_i32_2672 v2981
  v2982.toNat
def k0_dev96 (d0 : Dev nD) : Nat :=
  let c0_i32_2681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.subi v2 c4_i32_28
  let c1_i32_2680 : BitVec 32 := 1#32
  let v2991 : BitVec 32 := Scalar.muli v57 c1_i32_2680
  let v2992 : BitVec 32 := Scalar.addi c0_i32_2681 v2991
  v2992.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_1147 : BitVec 32 := 2#32
  let v1329 : BitVec 1 := Scalar.cmpi .eq v19 c2_i32_1147
  let v1330 : BitVec 32 := Scalar.extui v1329
  let c0_i32_1148 : BitVec 32 := 0#32
  let v1331 : BitVec 1 := Scalar.cmpi .ne v1330 c0_i32_1148
  v1331

def k0_off12 (d0 : Dev nD) (c0_i32_2659 : BitVec 32) : Fin 2 → Nat :=
  let c0_i32_1146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1328 : BitVec 32 := Scalar.addi c0_i32_1146 v29
  let c256_i32_2658 : BitVec 32 := 256#32
  let v2979 : BitVec 32 := Scalar.muli v1328 c256_i32_2658
  let v2980 : BitVec 32 := Scalar.addi v2979 c0_i32_2659
  let v2981 : Index := Scalar.indexCast v2980
  let c0_2660 : Index := 0#32
  ![v2981.toNat, 0]
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1150 : BitVec 32 := 3#32
  let v1333 : BitVec 1 := Scalar.cmpi .eq v19 c3_i32_1150
  let v1334 : BitVec 32 := Scalar.extui v1333
  let c0_i32_1151 : BitVec 32 := 0#32
  let v1335 : BitVec 1 := Scalar.cmpi .ne v1334 c0_i32_1151
  v1335

def k0_off13 (d0 : Dev nD) (c0_i32_2660 : BitVec 32) : Fin 2 → Nat :=
  let c4_i32_1149 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1332 : BitVec 32 := Scalar.addi c4_i32_1149 v29
  let c256_i32_2659 : BitVec 32 := 256#32
  let v2979 : BitVec 32 := Scalar.muli v1332 c256_i32_2659
  let v2980 : BitVec 32 := Scalar.addi v2979 c0_i32_2660
  let v2981 : Index := Scalar.indexCast v2980
  let c0_2661 : Index := 0#32
  ![v2981.toNat, 0]
def k0_cond35 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_1153 : BitVec 32 := 0#32
  let v1337 : BitVec 1 := Scalar.cmpi .eq v19 c0_i32_1153
  let v1338 : BitVec 32 := Scalar.extui v1337
  let c0_i32_1154 : BitVec 32 := 0#32
  let v1339 : BitVec 1 := Scalar.cmpi .ne v1338 c0_i32_1154
  v1339

def k0_off14 (d0 : Dev nD) (c0_i32_2660 : BitVec 32) : Fin 2 → Nat :=
  let c8_i32_1152 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1336 : BitVec 32 := Scalar.addi c8_i32_1152 v29
  let c256_i32_2659 : BitVec 32 := 256#32
  let v2979 : BitVec 32 := Scalar.muli v1336 c256_i32_2659
  let v2980 : BitVec 32 := Scalar.addi v2979 c0_i32_2660
  let v2981 : Index := Scalar.indexCast v2980
  let c0_2661 : Index := 0#32
  ![v2981.toNat, 0]
def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_1156 : BitVec 32 := 1#32
  let v1341 : BitVec 1 := Scalar.cmpi .eq v19 c1_i32_1156
  let v1342 : BitVec 32 := Scalar.extui v1341
  let c0_i32_1157 : BitVec 32 := 0#32
  let v1343 : BitVec 1 := Scalar.cmpi .ne v1342 c0_i32_1157
  v1343

def k0_off15 (d0 : Dev nD) (c0_i32_2659 : BitVec 32) : Fin 2 → Nat :=
  let c12_i32_1155 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1340 : BitVec 32 := Scalar.addi c12_i32_1155 v29
  let c256_i32_2658 : BitVec 32 := 256#32
  let v2979 : BitVec 32 := Scalar.muli v1340 c256_i32_2658
  let v2980 : BitVec 32 := Scalar.addi v2979 c0_i32_2659
  let v2981 : Index := Scalar.indexCast v2980
  let c0_2660 : Index := 0#32
  ![v2981.toNat, 0]
def k0_dev97 (d0 : Dev nD) : Nat :=
  let c0_i32_1175 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1174 : BitVec 32 := 1#32
  let v1352 : BitVec 32 := Scalar.muli v42 c1_i32_1174
  let v1353 : BitVec 32 := Scalar.addi c0_i32_1175 v1352
  v1353.toNat
def k0_dev98 (d0 : Dev nD) : Nat :=
  let c0_i32_1197 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1196 : BitVec 32 := 1#32
  let v1370 : BitVec 32 := Scalar.muli v55 c1_i32_1196
  let v1371 : BitVec 32 := Scalar.addi c0_i32_1197 v1370
  v1371.toNat
def k0_dev99 (d0 : Dev nD) : Nat :=
  let c0_i32_1219 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1218 : BitVec 32 := 1#32
  let v1388 : BitVec 32 := Scalar.muli v42 c1_i32_1218
  let v1389 : BitVec 32 := Scalar.addi c0_i32_1219 v1388
  v1389.toNat
def k0_dev100 (d0 : Dev nD) : Nat :=
  let c0_i32_1241 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1240 : BitVec 32 := 1#32
  let v1406 : BitVec 32 := Scalar.muli v55 c1_i32_1240
  let v1407 : BitVec 32 := Scalar.addi c0_i32_1241 v1406
  v1407.toNat
def k0_dev101 (d0 : Dev nD) : Nat :=
  let c0_i32_1321 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1320 : BitVec 32 := 1#32
  let v1535 : BitVec 32 := Scalar.muli v55 c1_i32_1320
  let v1536 : BitVec 32 := Scalar.addi c0_i32_1321 v1535
  v1536.toNat
def k0_dev102 (d0 : Dev nD) : Nat :=
  let c0_i32_1324 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1323 : BitVec 32 := 1#32
  let v1537 : BitVec 32 := Scalar.muli v55 c1_i32_1323
  let v1538 : BitVec 32 := Scalar.addi c0_i32_1324 v1537
  v1538.toNat
def k0_dev103 (d0 : Dev nD) : Nat :=
  let c0_i32_1327 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1326 : BitVec 32 := 1#32
  let v1539 : BitVec 32 := Scalar.muli v42 c1_i32_1326
  let v1540 : BitVec 32 := Scalar.addi c0_i32_1327 v1539
  v1540.toNat
def k0_dev104 (d0 : Dev nD) : Nat :=
  let c0_i32_1330 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1329 : BitVec 32 := 1#32
  let v1541 : BitVec 32 := Scalar.muli v42 c1_i32_1329
  let v1542 : BitVec 32 := Scalar.addi c0_i32_1330 v1541
  v1542.toNat
def k0_dev105 (d0 : Dev nD) : Nat :=
  let c0_i32_1348 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1347 : BitVec 32 := 1#32
  let v1551 : BitVec 32 := Scalar.muli v42 c1_i32_1347
  let v1552 : BitVec 32 := Scalar.addi c0_i32_1348 v1551
  v1552.toNat
def k0_dev106 (d0 : Dev nD) : Nat :=
  let c0_i32_1370 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1369 : BitVec 32 := 1#32
  let v1569 : BitVec 32 := Scalar.muli v55 c1_i32_1369
  let v1570 : BitVec 32 := Scalar.addi c0_i32_1370 v1569
  v1570.toNat
def k0_dev107 (d0 : Dev nD) : Nat :=
  let c0_i32_1392 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1391 : BitVec 32 := 1#32
  let v1587 : BitVec 32 := Scalar.muli v42 c1_i32_1391
  let v1588 : BitVec 32 := Scalar.addi c0_i32_1392 v1587
  v1588.toNat
def k0_dev108 (d0 : Dev nD) : Nat :=
  let c0_i32_1414 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1413 : BitVec 32 := 1#32
  let v1605 : BitVec 32 := Scalar.muli v55 c1_i32_1413
  let v1606 : BitVec 32 := Scalar.addi c0_i32_1414 v1605
  v1606.toNat
def k0_off16 (d0 : Dev nD) (c0_i32_1427 : BitVec 32) (c0_i32_1455 : BitVec 32) : Fin 2 → Nat :=
  let c4_i32_1426 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_1419 : BitVec 32 := 0#32
  let v1615 : BitVec 1 := Scalar.cmpi .eq v19 c0_i32_1419
  let c2_i32_1425 : BitVec 32 := 2#32
  let c1_i32_1420 : BitVec 32 := 1#32
  let v1616 : BitVec 1 := Scalar.cmpi .eq v19 c1_i32_1420
  let c2_i32_1424 : BitVec 32 := 2#32
  let c2_i32_1421 : BitVec 32 := 2#32
  let v1617 : BitVec 1 := Scalar.cmpi .eq v19 c2_i32_1421
  let c3_i32_1422 : BitVec 32 := 3#32
  let c1_i32_1423 : BitVec 32 := 1#32
  let v1618 : BitVec 32 := Scalar.select v1617 c3_i32_1422 c1_i32_1423
  let v1619 : BitVec 32 := Scalar.select v1616 c2_i32_1424 v1618
  let v1620 : BitVec 32 := Scalar.select v1615 c2_i32_1425 v1619
  let v1621 : BitVec 32 := Scalar.muli c4_i32_1426 v1620
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1622 : BitVec 32 := Scalar.subi v29 c0_i32_1427
  let c1_i32_1428 : BitVec 32 := 1#32
  let v1623 : BitVec 32 := Scalar.subi v1622 c1_i32_1428
  let c4_i32_1429 : BitVec 32 := 4#32
  let c0_i32_1430 : BitVec 32 := 0#32
  let v1624 : BitVec 1 := Scalar.cmpi .eq c4_i32_1429 c0_i32_1430
  let c1_i32_1431 : BitVec 32 := 1#32
  let v1625 : BitVec 32 := Scalar.select v1624 c1_i32_1431 c4_i32_1429
  let v1626 : BitVec 32 := Scalar.remsi v1623 v1625
  let c0_i32_1433 : BitVec 32 := 0#32
  let v1628 : BitVec 1 := Scalar.cmpi .slt v1626 c0_i32_1433
  let c0_i32_1434 : BitVec 32 := 0#32
  let v1629 : BitVec 1 := Scalar.cmpi .slt v1625 c0_i32_1434
  let v1630 : BitVec 1 := Scalar.xori v1628 v1629
  let c0_i32_1432 : BitVec 32 := 0#32
  let v1627 : BitVec 1 := Scalar.cmpi .ne v1626 c0_i32_1432
  let v1631 : BitVec 1 := Scalar.andi v1630 v1627
  let v1632 : BitVec 32 := Scalar.addi v1626 v1625
  let v1633 : BitVec 32 := Scalar.select v1631 v1632 v1626
  let v1634 : BitVec 32 := Scalar.addi v1621 v1633
  let c256_i32_1454 : BitVec 32 := 256#32
  let v1667 : BitVec 32 := Scalar.muli v1634 c256_i32_1454
  let v1668 : BitVec 32 := Scalar.addi v1667 c0_i32_1455
  let v1669 : Index := Scalar.indexCast v1668
  let c0_1456 : Index := 0#32
  ![v1669.toNat, 0]
def k0_off17 (d0 : Dev nD) (c0_i32_1436 : BitVec 32) (c128_i32_1481 : BitVec 32) : Fin 2 → Nat :=
  let c4_i32_1435 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_1419 : BitVec 32 := 0#32
  let v1615 : BitVec 1 := Scalar.cmpi .eq v19 c0_i32_1419
  let c2_i32_1425 : BitVec 32 := 2#32
  let c1_i32_1420 : BitVec 32 := 1#32
  let v1616 : BitVec 1 := Scalar.cmpi .eq v19 c1_i32_1420
  let c2_i32_1424 : BitVec 32 := 2#32
  let c2_i32_1421 : BitVec 32 := 2#32
  let v1617 : BitVec 1 := Scalar.cmpi .eq v19 c2_i32_1421
  let c3_i32_1422 : BitVec 32 := 3#32
  let c1_i32_1423 : BitVec 32 := 1#32
  let v1618 : BitVec 32 := Scalar.select v1617 c3_i32_1422 c1_i32_1423
  let v1619 : BitVec 32 := Scalar.select v1616 c2_i32_1424 v1618
  let v1620 : BitVec 32 := Scalar.select v1615 c2_i32_1425 v1619
  let v1635 : BitVec 32 := Scalar.muli c4_i32_1435 v1620
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v1636 : BitVec 32 := Scalar.addi v29 c0_i32_1436
  let c1_i32_1437 : BitVec 32 := 1#32
  let v1637 : BitVec 32 := Scalar.addi v1636 c1_i32_1437
  let c4_i32_1438 : BitVec 32 := 4#32
  let c0_i32_1439 : BitVec 32 := 0#32
  let v1638 : BitVec 1 := Scalar.cmpi .eq c4_i32_1438 c0_i32_1439
  let c1_i32_1440 : BitVec 32 := 1#32
  let v1639 : BitVec 32 := Scalar.select v1638 c1_i32_1440 c4_i32_1438
  let v1640 : BitVec 32 := Scalar.remsi v1637 v1639
  let c0_i32_1442 : BitVec 32 := 0#32
  let v1642 : BitVec 1 := Scalar.cmpi .slt v1640 c0_i32_1442
  let c0_i32_1443 : BitVec 32 := 0#32
  let v1643 : BitVec 1 := Scalar.cmpi .slt v1639 c0_i32_1443
  let v1644 : BitVec 1 := Scalar.xori v1642 v1643
  let c0_i32_1441 : BitVec 32 := 0#32
  let v1641 : BitVec 1 := Scalar.cmpi .ne v1640 c0_i32_1441
  let v1645 : BitVec 1 := Scalar.andi v1644 v1641
  let v1646 : BitVec 32 := Scalar.addi v1640 v1639
  let v1647 : BitVec 32 := Scalar.select v1645 v1646 v1640
  let v1648 : BitVec 32 := Scalar.addi v1635 v1647
  let c256_i32_1480 : BitVec 32 := 256#32
  let v1711 : BitVec 32 := Scalar.muli v1648 c256_i32_1480
  let v1712 : BitVec 32 := Scalar.addi v1711 c128_i32_1481
  let v1713 : Index := Scalar.indexCast v1712
  let c0_1482 : Index := 0#32
  ![v1713.toNat, 0]
def k0_dev109 (d0 : Dev nD) : Nat :=
  let c0_i32_1534 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1533 : BitVec 32 := 1#32
  let v1761 : BitVec 32 := Scalar.muli v55 c1_i32_1533
  let v1762 : BitVec 32 := Scalar.addi c0_i32_1534 v1761
  v1762.toNat
def k0_dev110 (d0 : Dev nD) : Nat :=
  let c0_i32_1537 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1536 : BitVec 32 := 1#32
  let v1763 : BitVec 32 := Scalar.muli v55 c1_i32_1536
  let v1764 : BitVec 32 := Scalar.addi c0_i32_1537 v1763
  v1764.toNat
def k0_dev111 (d0 : Dev nD) : Nat :=
  let c0_i32_1540 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1539 : BitVec 32 := 1#32
  let v1765 : BitVec 32 := Scalar.muli v42 c1_i32_1539
  let v1766 : BitVec 32 := Scalar.addi c0_i32_1540 v1765
  v1766.toNat
def k0_dev112 (d0 : Dev nD) : Nat :=
  let c0_i32_1543 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1542 : BitVec 32 := 1#32
  let v1767 : BitVec 32 := Scalar.muli v42 c1_i32_1542
  let v1768 : BitVec 32 := Scalar.addi c0_i32_1543 v1767
  v1768.toNat
def k0_dev113 (d0 : Dev nD) : Nat :=
  let c0_i32_1561 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1560 : BitVec 32 := 1#32
  let v1777 : BitVec 32 := Scalar.muli v42 c1_i32_1560
  let v1778 : BitVec 32 := Scalar.addi c0_i32_1561 v1777
  v1778.toNat
def k0_dev114 (d0 : Dev nD) : Nat :=
  let c0_i32_1583 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1582 : BitVec 32 := 1#32
  let v1795 : BitVec 32 := Scalar.muli v55 c1_i32_1582
  let v1796 : BitVec 32 := Scalar.addi c0_i32_1583 v1795
  v1796.toNat
def k0_dev115 (d0 : Dev nD) : Nat :=
  let c0_i32_1605 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1604 : BitVec 32 := 1#32
  let v1813 : BitVec 32 := Scalar.muli v42 c1_i32_1604
  let v1814 : BitVec 32 := Scalar.addi c0_i32_1605 v1813
  v1814.toNat
def k0_dev116 (d0 : Dev nD) : Nat :=
  let c0_i32_1627 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1626 : BitVec 32 := 1#32
  let v1831 : BitVec 32 := Scalar.muli v55 c1_i32_1626
  let v1832 : BitVec 32 := Scalar.addi c0_i32_1627 v1831
  v1832.toNat
def k0_dev117 (d0 : Dev nD) : Nat :=
  let c0_i32_1747 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1746 : BitVec 32 := 1#32
  let v1987 : BitVec 32 := Scalar.muli v55 c1_i32_1746
  let v1988 : BitVec 32 := Scalar.addi c0_i32_1747 v1987
  v1988.toNat
def k0_dev118 (d0 : Dev nD) : Nat :=
  let c0_i32_1750 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1749 : BitVec 32 := 1#32
  let v1989 : BitVec 32 := Scalar.muli v55 c1_i32_1749
  let v1990 : BitVec 32 := Scalar.addi c0_i32_1750 v1989
  v1990.toNat
def k0_dev119 (d0 : Dev nD) : Nat :=
  let c0_i32_1753 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1752 : BitVec 32 := 1#32
  let v1991 : BitVec 32 := Scalar.muli v42 c1_i32_1752
  let v1992 : BitVec 32 := Scalar.addi c0_i32_1753 v1991
  v1992.toNat
def k0_dev120 (d0 : Dev nD) : Nat :=
  let c0_i32_1756 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1755 : BitVec 32 := 1#32
  let v1993 : BitVec 32 := Scalar.muli v42 c1_i32_1755
  let v1994 : BitVec 32 := Scalar.addi c0_i32_1756 v1993
  v1994.toNat
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_1762 : BitVec 32 := 3#32
  let v2002 : BitVec 1 := Scalar.cmpi .eq v19 c3_i32_1762
  let v2003 : BitVec 32 := Scalar.extui v2002
  let c0_i32_1763 : BitVec 32 := 0#32
  let v2004 : BitVec 1 := Scalar.cmpi .ne v2003 c0_i32_1763
  v2004

def k0_off18 (d0 : Dev nD) (c0_i32_2659 : BitVec 32) : Fin 2 → Nat :=
  let c0_i32_1761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2001 : BitVec 32 := Scalar.addi c0_i32_1761 v29
  let c256_i32_2658 : BitVec 32 := 256#32
  let v2979 : BitVec 32 := Scalar.muli v2001 c256_i32_2658
  let v2980 : BitVec 32 := Scalar.addi v2979 c0_i32_2659
  let v2981 : Index := Scalar.indexCast v2980
  let c0_2660 : Index := 0#32
  ![v2981.toNat, 0]
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_1765 : BitVec 32 := 0#32
  let v2006 : BitVec 1 := Scalar.cmpi .eq v19 c0_i32_1765
  let v2007 : BitVec 32 := Scalar.extui v2006
  let c0_i32_1766 : BitVec 32 := 0#32
  let v2008 : BitVec 1 := Scalar.cmpi .ne v2007 c0_i32_1766
  v2008

def k0_off19 (d0 : Dev nD) (c0_i32_2659 : BitVec 32) : Fin 2 → Nat :=
  let c12_i32_1764 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2005 : BitVec 32 := Scalar.addi c12_i32_1764 v29
  let c256_i32_2658 : BitVec 32 := 256#32
  let v2979 : BitVec 32 := Scalar.muli v2005 c256_i32_2658
  let v2980 : BitVec 32 := Scalar.addi v2979 c0_i32_2659
  let v2981 : Index := Scalar.indexCast v2980
  let c0_2660 : Index := 0#32
  ![v2981.toNat, 0]
def k0_dev121 (d0 : Dev nD) : Nat :=
  let c0_i32_1784 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1783 : BitVec 32 := 1#32
  let v2017 : BitVec 32 := Scalar.muli v42 c1_i32_1783
  let v2018 : BitVec 32 := Scalar.addi c0_i32_1784 v2017
  v2018.toNat
def k0_dev122 (d0 : Dev nD) : Nat :=
  let c0_i32_1806 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1805 : BitVec 32 := 1#32
  let v2035 : BitVec 32 := Scalar.muli v55 c1_i32_1805
  let v2036 : BitVec 32 := Scalar.addi c0_i32_1806 v2035
  v2036.toNat
def k0_dev123 (d0 : Dev nD) : Nat :=
  let c0_i32_1828 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1827 : BitVec 32 := 1#32
  let v2053 : BitVec 32 := Scalar.muli v42 c1_i32_1827
  let v2054 : BitVec 32 := Scalar.addi c0_i32_1828 v2053
  v2054.toNat
def k0_dev124 (d0 : Dev nD) : Nat :=
  let c0_i32_1850 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1849 : BitVec 32 := 1#32
  let v2071 : BitVec 32 := Scalar.muli v55 c1_i32_1849
  let v2072 : BitVec 32 := Scalar.addi c0_i32_1850 v2071
  v2072.toNat
def k0_dev125 (d0 : Dev nD) : Nat :=
  let c0_i32_1934 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1933 : BitVec 32 := 1#32
  let v2203 : BitVec 32 := Scalar.muli v55 c1_i32_1933
  let v2204 : BitVec 32 := Scalar.addi c0_i32_1934 v2203
  v2204.toNat
def k0_dev126 (d0 : Dev nD) : Nat :=
  let c0_i32_1937 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1936 : BitVec 32 := 1#32
  let v2205 : BitVec 32 := Scalar.muli v55 c1_i32_1936
  let v2206 : BitVec 32 := Scalar.addi c0_i32_1937 v2205
  v2206.toNat
def k0_dev127 (d0 : Dev nD) : Nat :=
  let c0_i32_1940 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1939 : BitVec 32 := 1#32
  let v2207 : BitVec 32 := Scalar.muli v42 c1_i32_1939
  let v2208 : BitVec 32 := Scalar.addi c0_i32_1940 v2207
  v2208.toNat
def k0_dev128 (d0 : Dev nD) : Nat :=
  let c0_i32_1943 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1942 : BitVec 32 := 1#32
  let v2209 : BitVec 32 := Scalar.muli v42 c1_i32_1942
  let v2210 : BitVec 32 := Scalar.addi c0_i32_1943 v2209
  v2210.toNat
def k0_dev129 (d0 : Dev nD) : Nat :=
  let c0_i32_1961 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_1960 : BitVec 32 := 1#32
  let v2219 : BitVec 32 := Scalar.muli v42 c1_i32_1960
  let v2220 : BitVec 32 := Scalar.addi c0_i32_1961 v2219
  v2220.toNat
def k0_dev130 (d0 : Dev nD) : Nat :=
  let c0_i32_1983 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_1982 : BitVec 32 := 1#32
  let v2237 : BitVec 32 := Scalar.muli v55 c1_i32_1982
  let v2238 : BitVec 32 := Scalar.addi c0_i32_1983 v2237
  v2238.toNat
def k0_dev131 (d0 : Dev nD) : Nat :=
  let c0_i32_2005 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2004 : BitVec 32 := 1#32
  let v2255 : BitVec 32 := Scalar.muli v42 c1_i32_2004
  let v2256 : BitVec 32 := Scalar.addi c0_i32_2005 v2255
  v2256.toNat
def k0_dev132 (d0 : Dev nD) : Nat :=
  let c0_i32_2027 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_2026 : BitVec 32 := 1#32
  let v2273 : BitVec 32 := Scalar.muli v55 c1_i32_2026
  let v2274 : BitVec 32 := Scalar.addi c0_i32_2027 v2273
  v2274.toNat
def k0_off20 (d0 : Dev nD) (c0_i32_2036 : BitVec 32) (c0_i32_2064 : BitVec 32) : Fin 2 → Nat :=
  let c4_i32_2035 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2032 : BitVec 32 := 1#32
  let v2283 : BitVec 1 := Scalar.cmpi .sle v19 c1_i32_2032
  let c3_i32_2033 : BitVec 32 := 3#32
  let c0_i32_2034 : BitVec 32 := 0#32
  let v2284 : BitVec 32 := Scalar.select v2283 c3_i32_2033 c0_i32_2034
  let v2285 : BitVec 32 := Scalar.muli c4_i32_2035 v2284
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2286 : BitVec 32 := Scalar.subi v29 c0_i32_2036
  let c1_i32_2037 : BitVec 32 := 1#32
  let v2287 : BitVec 32 := Scalar.subi v2286 c1_i32_2037
  let c4_i32_2038 : BitVec 32 := 4#32
  let c0_i32_2039 : BitVec 32 := 0#32
  let v2288 : BitVec 1 := Scalar.cmpi .eq c4_i32_2038 c0_i32_2039
  let c1_i32_2040 : BitVec 32 := 1#32
  let v2289 : BitVec 32 := Scalar.select v2288 c1_i32_2040 c4_i32_2038
  let v2290 : BitVec 32 := Scalar.remsi v2287 v2289
  let c0_i32_2042 : BitVec 32 := 0#32
  let v2292 : BitVec 1 := Scalar.cmpi .slt v2290 c0_i32_2042
  let c0_i32_2043 : BitVec 32 := 0#32
  let v2293 : BitVec 1 := Scalar.cmpi .slt v2289 c0_i32_2043
  let v2294 : BitVec 1 := Scalar.xori v2292 v2293
  let c0_i32_2041 : BitVec 32 := 0#32
  let v2291 : BitVec 1 := Scalar.cmpi .ne v2290 c0_i32_2041
  let v2295 : BitVec 1 := Scalar.andi v2294 v2291
  let v2296 : BitVec 32 := Scalar.addi v2290 v2289
  let v2297 : BitVec 32 := Scalar.select v2295 v2296 v2290
  let v2298 : BitVec 32 := Scalar.addi v2285 v2297
  let c256_i32_2063 : BitVec 32 := 256#32
  let v2331 : BitVec 32 := Scalar.muli v2298 c256_i32_2063
  let v2332 : BitVec 32 := Scalar.addi v2331 c0_i32_2064
  let v2333 : Index := Scalar.indexCast v2332
  let c0_2065 : Index := 0#32
  ![v2333.toNat, 0]
def k0_off21 (d0 : Dev nD) (c0_i32_2045 : BitVec 32) (c128_i32_2090 : BitVec 32) : Fin 2 → Nat :=
  let c4_i32_2044 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2032 : BitVec 32 := 1#32
  let v2283 : BitVec 1 := Scalar.cmpi .sle v19 c1_i32_2032
  let c3_i32_2033 : BitVec 32 := 3#32
  let c0_i32_2034 : BitVec 32 := 0#32
  let v2284 : BitVec 32 := Scalar.select v2283 c3_i32_2033 c0_i32_2034
  let v2299 : BitVec 32 := Scalar.muli c4_i32_2044 v2284
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v2300 : BitVec 32 := Scalar.addi v29 c0_i32_2045
  let c1_i32_2046 : BitVec 32 := 1#32
  let v2301 : BitVec 32 := Scalar.addi v2300 c1_i32_2046
  let c4_i32_2047 : BitVec 32 := 4#32
  let c0_i32_2048 : BitVec 32 := 0#32
  let v2302 : BitVec 1 := Scalar.cmpi .eq c4_i32_2047 c0_i32_2048
  let c1_i32_2049 : BitVec 32 := 1#32
  let v2303 : BitVec 32 := Scalar.select v2302 c1_i32_2049 c4_i32_2047
  let v2304 : BitVec 32 := Scalar.remsi v2301 v2303
  let c0_i32_2051 : BitVec 32 := 0#32
  let v2306 : BitVec 1 := Scalar.cmpi .slt v2304 c0_i32_2051
  let c0_i32_2052 : BitVec 32 := 0#32
  let v2307 : BitVec 1 := Scalar.cmpi .slt v2303 c0_i32_2052
  let v2308 : BitVec 1 := Scalar.xori v2306 v2307
  let c0_i32_2050 : BitVec 32 := 0#32
  let v2305 : BitVec 1 := Scalar.cmpi .ne v2304 c0_i32_2050
  let v2309 : BitVec 1 := Scalar.andi v2308 v2305
  let v2310 : BitVec 32 := Scalar.addi v2304 v2303
  let v2311 : BitVec 32 := Scalar.select v2309 v2310 v2304
  let v2312 : BitVec 32 := Scalar.addi v2299 v2311
  let c256_i32_2089 : BitVec 32 := 256#32
  let v2375 : BitVec 32 := Scalar.muli v2312 c256_i32_2089
  let v2376 : BitVec 32 := Scalar.addi v2375 c128_i32_2090
  let v2377 : Index := Scalar.indexCast v2376
  let c0_2091 : Index := 0#32
  ![v2377.toNat, 0]
def k0_dev133 (d0 : Dev nD) : Nat :=
  let c0_i32_2158 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2157 : BitVec 32 := 1#32
  let v2433 : BitVec 32 := Scalar.muli v42 c1_i32_2157
  let v2434 : BitVec 32 := Scalar.addi c0_i32_2158 v2433
  v2434.toNat
def k0_dev134 (d0 : Dev nD) : Nat :=
  let c0_i32_2180 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_2179 : BitVec 32 := 1#32
  let v2451 : BitVec 32 := Scalar.muli v55 c1_i32_2179
  let v2452 : BitVec 32 := Scalar.addi c0_i32_2180 v2451
  v2452.toNat
def k0_dev135 (d0 : Dev nD) : Nat :=
  let c0_i32_2202 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2201 : BitVec 32 := 1#32
  let v2469 : BitVec 32 := Scalar.muli v42 c1_i32_2201
  let v2470 : BitVec 32 := Scalar.addi c0_i32_2202 v2469
  v2470.toNat
def k0_dev136 (d0 : Dev nD) : Nat :=
  let c0_i32_2224 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_2223 : BitVec 32 := 1#32
  let v2487 : BitVec 32 := Scalar.muli v55 c1_i32_2223
  let v2488 : BitVec 32 := Scalar.addi c0_i32_2224 v2487
  v2488.toNat
def k0_off22 (d0 : Dev nD) (c0_i32_2370 : BitVec 32) : Fin 2 → Nat :=
  let c4_i32_2351 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2338 : BitVec 32 := 1#32
  let v2639 : BitVec 1 := Scalar.cmpi .sle v19 c1_i32_2338
  let c3_i32_2339 : BitVec 32 := 3#32
  let c0_i32_2340 : BitVec 32 := 0#32
  let v2640 : BitVec 32 := Scalar.select v2639 c3_i32_2339 c0_i32_2340
  let v2649 : BitVec 32 := Scalar.muli c4_i32_2351 v2640
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_2352 : BitVec 32 := 1#32
  let v2650 : BitVec 32 := Scalar.addi v29 c1_i32_2352
  let c4_i32_2353 : BitVec 32 := 4#32
  let c0_i32_2354 : BitVec 32 := 0#32
  let v2651 : BitVec 1 := Scalar.cmpi .eq c4_i32_2353 c0_i32_2354
  let c1_i32_2355 : BitVec 32 := 1#32
  let v2652 : BitVec 32 := Scalar.select v2651 c1_i32_2355 c4_i32_2353
  let v2653 : BitVec 32 := Scalar.remsi v2650 v2652
  let c0_i32_2357 : BitVec 32 := 0#32
  let v2655 : BitVec 1 := Scalar.cmpi .slt v2653 c0_i32_2357
  let c0_i32_2358 : BitVec 32 := 0#32
  let v2656 : BitVec 1 := Scalar.cmpi .slt v2652 c0_i32_2358
  let v2657 : BitVec 1 := Scalar.xori v2655 v2656
  let c0_i32_2356 : BitVec 32 := 0#32
  let v2654 : BitVec 1 := Scalar.cmpi .ne v2653 c0_i32_2356
  let v2658 : BitVec 1 := Scalar.andi v2657 v2654
  let v2659 : BitVec 32 := Scalar.addi v2653 v2652
  let v2660 : BitVec 32 := Scalar.select v2658 v2659 v2653
  let v2661 : BitVec 32 := Scalar.addi v2649 v2660
  let c256_i32_2369 : BitVec 32 := 256#32
  let v2680 : BitVec 32 := Scalar.muli v2661 c256_i32_2369
  let v2681 : BitVec 32 := Scalar.addi v2680 c0_i32_2370
  let v2682 : Index := Scalar.indexCast v2681
  let c0_2371 : Index := 0#32
  ![v2682.toNat, 0]
def k0_off23 (d0 : Dev nD) (c128_i32_2401 : BitVec 32) : Fin 2 → Nat :=
  let c4_i32_2382 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_2338 : BitVec 32 := 1#32
  let v2639 : BitVec 1 := Scalar.cmpi .sle v19 c1_i32_2338
  let c3_i32_2339 : BitVec 32 := 3#32
  let c0_i32_2340 : BitVec 32 := 0#32
  let v2640 : BitVec 32 := Scalar.select v2639 c3_i32_2339 c0_i32_2340
  let v2692 : BitVec 32 := Scalar.muli c4_i32_2382 v2640
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_2383 : BitVec 32 := 1#32
  let v2693 : BitVec 32 := Scalar.subi v29 c1_i32_2383
  let c4_i32_2384 : BitVec 32 := 4#32
  let c0_i32_2385 : BitVec 32 := 0#32
  let v2694 : BitVec 1 := Scalar.cmpi .eq c4_i32_2384 c0_i32_2385
  let c1_i32_2386 : BitVec 32 := 1#32
  let v2695 : BitVec 32 := Scalar.select v2694 c1_i32_2386 c4_i32_2384
  let v2696 : BitVec 32 := Scalar.remsi v2693 v2695
  let c0_i32_2388 : BitVec 32 := 0#32
  let v2698 : BitVec 1 := Scalar.cmpi .slt v2696 c0_i32_2388
  let c0_i32_2389 : BitVec 32 := 0#32
  let v2699 : BitVec 1 := Scalar.cmpi .slt v2695 c0_i32_2389
  let v2700 : BitVec 1 := Scalar.xori v2698 v2699
  let c0_i32_2387 : BitVec 32 := 0#32
  let v2697 : BitVec 1 := Scalar.cmpi .ne v2696 c0_i32_2387
  let v2701 : BitVec 1 := Scalar.andi v2700 v2697
  let v2702 : BitVec 32 := Scalar.addi v2696 v2695
  let v2703 : BitVec 32 := Scalar.select v2701 v2702 v2696
  let v2704 : BitVec 32 := Scalar.addi v2692 v2703
  let c256_i32_2400 : BitVec 32 := 256#32
  let v2723 : BitVec 32 := Scalar.muli v2704 c256_i32_2400
  let v2724 : BitVec 32 := Scalar.addi v2723 c128_i32_2401
  let v2725 : Index := Scalar.indexCast v2724
  let c0_2402 : Index := 0#32
  ![v2725.toNat, 0]
def k0_dev137 (d0 : Dev nD) : Nat :=
  let c0_i32_2635 : BitVec 32 := 0#32
  let c4_i32_19 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v43 : BitVec 32 := Scalar.muli c4_i32_19 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_20 : BitVec 32 := 1#32
  let v44 : BitVec 32 := Scalar.subi v29 c1_i32_20
  let c4_i32_21 : BitVec 32 := 4#32
  let c0_i32_22 : BitVec 32 := 0#32
  let v45 : BitVec 1 := Scalar.cmpi .eq c4_i32_21 c0_i32_22
  let c1_i32_23 : BitVec 32 := 1#32
  let v46 : BitVec 32 := Scalar.select v45 c1_i32_23 c4_i32_21
  let v47 : BitVec 32 := Scalar.remsi v44 v46
  let c0_i32_25 : BitVec 32 := 0#32
  let v49 : BitVec 1 := Scalar.cmpi .slt v47 c0_i32_25
  let c0_i32_26 : BitVec 32 := 0#32
  let v50 : BitVec 1 := Scalar.cmpi .slt v46 c0_i32_26
  let v51 : BitVec 1 := Scalar.xori v49 v50
  let c0_i32_24 : BitVec 32 := 0#32
  let v48 : BitVec 1 := Scalar.cmpi .ne v47 c0_i32_24
  let v52 : BitVec 1 := Scalar.andi v51 v48
  let v53 : BitVec 32 := Scalar.addi v47 v46
  let v54 : BitVec 32 := Scalar.select v52 v53 v47
  let v55 : BitVec 32 := Scalar.addi v43 v54
  let c1_i32_2634 : BitVec 32 := 1#32
  let v2945 : BitVec 32 := Scalar.muli v55 c1_i32_2634
  let v2946 : BitVec 32 := Scalar.addi c0_i32_2635 v2945
  v2946.toNat
def k0_dev138 (d0 : Dev nD) : Nat :=
  let c0_i32_2638 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v30 : BitVec 32 := Scalar.muli c4_i32_11 v19
  let c4_i32_5 : BitVec 32 := 4#32
  let c0_i32_6 : BitVec 32 := 0#32
  let v20 : BitVec 1 := Scalar.cmpi .eq c4_i32_5 c0_i32_6
  let c1_i32_7 : BitVec 32 := 1#32
  let v21 : BitVec 32 := Scalar.select v20 c1_i32_7 c4_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_12 : BitVec 32 := 1#32
  let v31 : BitVec 32 := Scalar.addi v29 c1_i32_12
  let c4_i32_13 : BitVec 32 := 4#32
  let c0_i32_14 : BitVec 32 := 0#32
  let v32 : BitVec 1 := Scalar.cmpi .eq c4_i32_13 c0_i32_14
  let c1_i32_15 : BitVec 32 := 1#32
  let v33 : BitVec 32 := Scalar.select v32 c1_i32_15 c4_i32_13
  let v34 : BitVec 32 := Scalar.remsi v31 v33
  let c0_i32_17 : BitVec 32 := 0#32
  let v36 : BitVec 1 := Scalar.cmpi .slt v34 c0_i32_17
  let c0_i32_18 : BitVec 32 := 0#32
  let v37 : BitVec 1 := Scalar.cmpi .slt v33 c0_i32_18
  let v38 : BitVec 1 := Scalar.xori v36 v37
  let c0_i32_16 : BitVec 32 := 0#32
  let v35 : BitVec 1 := Scalar.cmpi .ne v34 c0_i32_16
  let v39 : BitVec 1 := Scalar.andi v38 v35
  let v40 : BitVec 32 := Scalar.addi v34 v33
  let v41 : BitVec 32 := Scalar.select v39 v40 v34
  let v42 : BitVec 32 := Scalar.addi v30 v41
  let c1_i32_2637 : BitVec 32 := 1#32
  let v2947 : BitVec 32 := Scalar.muli v42 c1_i32_2637
  let v2948 : BitVec 32 := Scalar.addi c0_i32_2638 v2947
  v2948.toNat
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_2639 : BitVec 32 := 3#32
  let v2949 : BitVec 1 := Scalar.cmpi .slt v19 c3_i32_2639
  let v2950 : BitVec 32 := Scalar.extui v2949
  let c0_i32_2640 : BitVec 32 := 0#32
  let v2951 : BitVec 1 := Scalar.cmpi .ne v2950 c0_i32_2640
  v2951

def k0_dev139 (d0 : Dev nD) : Nat :=
  let c0_i32_2651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_27 : BitVec 32 := 4#32
  let v56 : BitVec 32 := Scalar.addi v2 c4_i32_27
  let c1_i32_2650 : BitVec 32 := 1#32
  let v2961 : BitVec 32 := Scalar.muli v56 c1_i32_2650
  let v2962 : BitVec 32 := Scalar.addi c0_i32_2651 v2961
  v2962.toNat
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c0_i32_2641 : BitVec 32 := 0#32
  let v2952 : BitVec 1 := Scalar.cmpi .sgt v19 c0_i32_2641
  let v2953 : BitVec 32 := Scalar.extui v2952
  let c0_i32_2642 : BitVec 32 := 0#32
  let v2954 : BitVec 1 := Scalar.cmpi .ne v2953 c0_i32_2642
  v2954

def k0_dev140 (d0 : Dev nD) : Nat :=
  let c0_i32_2651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_28 : BitVec 32 := 4#32
  let v57 : BitVec 32 := Scalar.subi v2 c4_i32_28
  let c1_i32_2650 : BitVec 32 := 1#32
  let v2961 : BitVec 32 := Scalar.muli v57 c1_i32_2650
  let v2962 : BitVec 32 := Scalar.addi c0_i32_2651 v2961
  v2962.toNat
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Same.lean ====
/- The kernel read bit by bit and the kernel read over the reals are one program text. -/
module

public import proofs.«01_k».proof.Defs
public import proofs.«01_k».proof.Proof.Gen.Kernel
public import proofs.«01_k».proof.Proof.Gen.KernelIdeal

@[expose] public section

namespace Cert.Proof

open Idealize.ShloMosaic Idealize.ShloMosaic.TcCoe

attribute [local instance] Cert.Kernel.Gen.facts Cert.KernelIdeal.Gen.facts

variable {F : FTy → Type} [FloatOps F]

theorem body_same : Cert.Kernel.cc0_body (F := F) = Cert.KernelIdeal.cc0_body (F := F) := rfl

theorem bodies_same : Cert.Kernel.defs₀ (F := F) = Cert.KernelIdeal.defs₀ (F := F) := by
  unfold Cert.Kernel.defs₀ Cert.KernelIdeal.defs₀
  refine congrArg (Defs.onTc (nD := Cert.Kernel.nD) (τ := Cert.Kernel.τ) (sig := Cert.Kernel.sig) (Val := Elt F) (Λ := Cert.Kernel.Λ₀)) ?_
  funext l a
  match l, a with
  | 0, (t, s) =>
    show Cert.Kernel.cc0_body (F := F) _ _ _ _ _ _ _ _ _ _ _ _ _ _ _ _ _ _ _ _ _ _ _ _ _ _ _ _ _ _ _ _ _ _ _ _ _ _ _ _ _ _ _ = _
    rw [body_same]

theorem defs_same : Cert.Kernel.defs (F := F) = Cert.KernelIdeal.defs (F := F) := by
  unfold Cert.Kernel.defs Cert.KernelIdeal.defs
  rw [bodies_same]
  rfl

theorem main_same : Cert.Kernel.main (F := F) = Cert.KernelIdeal.main (F := F) := rfl

end Cert.Proof
-- ==== Proof.Prog.lean ====
/- The kernel's body as a list of operations.

   Device `c` stands at plane `z = c / 4` and ring place `j = c % 4`. What it does is a straight line once its
   plane is known, so the body is restated here as a list `opsZ z` of operation codes together with what each
   code runs (`Op.run`). `body_eq` (module Body) says that the printed body is this list, at every device. -/
module

public import proofs.«01_k».proof.Proof.Gen.KernelIdeal
public import proofs.«01_k».proof.Proof.Gen.KernelIdeal.Launch

@[expose] public section

noncomputable section

namespace Cert.Proof.K

open Idealize.ShloMosaic Idealize.SL.Sem Cert.KernelIdeal Cert.KernelIdeal.Facts₀ Cert.KernelIdeal.Facts

attribute [local instance] Cert.KernelIdeal.Gen.facts

/-! ## The mesh -/

/-- A device's plane. -/
def zOf (c : Dev nD) : Fin 4 := ⟨c.val / 4, by have : c.val < 16 := c.isLt; omega⟩

/-- A device's place in the ring of its plane. -/
def jOf (c : Dev nD) : Fin 4 := ⟨c.val % 4, by omega⟩

/-- The device at a plane and a place. -/
def mkDev (z j : Fin 4) : Dev nD := ⟨4 * z.val + j.val, by show _ < 16; have := z.isLt; have := j.isLt; omega⟩

/-- The four directions a device sends in: left and right along its ring, up and down across the planes. -/
inductive Nbr | l | r | u | d
  deriving DecidableEq

/-- The neighbour in a direction. Planes wrap here too; the kernel uses `u` and `d` only where they do not. -/
def nbr : Nbr → Dev nD → Dev nD
  | .l, c => mkDev (zOf c) (jOf c + 3)
  | .r, c => mkDev (zOf c) (jOf c + 1)
  | .u, c => mkDev (zOf c + 1) (jOf c)
  | .d, c => mkDev (zOf c + 3) (jOf c)

/-- The direction back. -/
def Nbr.back : Nbr → Nbr
  | .l => .r
  | .r => .l
  | .u => .d
  | .d => .u

/-- Quarters 0 and 1 travel to the right, 2 and 3 to the left. -/
def qdir (qt : Fin 4) : Nbr := if qt.val < 2 then .r else .l

/-- The plane whose rows a device of plane `z` keeps in slot `s` of its staging buffers. -/
def oz (z s : Fin 4) : Fin 4 :=
  match z, s with
  | 0, s => s
  | 1, 0 => 1 | 1, 1 => 0 | 1, s => s
  | 2, 0 => 2 | 2, 1 => 1 | 2, 2 => 3 | 2, _ => 0
  | 3, 0 => 3 | 3, 1 => 2 | 3, 2 => 1 | 3, _ => 0

/-- The device whose rows arrive in slot `h` of the ring buffer of quarter `qt` in phase `r`. -/
def ringOrig (c : Dev nD) (r : Fin 4) (h : Fin 3) (qt : Fin 4) : Dev nD :=
  mkDev (oz (zOf c) r) (if qt.val < 2 then jOf c + 3 - ⟨h.val, by have := h.isLt; omega⟩
    else jOf c + 1 + ⟨h.val, by have := h.isLt; omega⟩)

/-- The device whose rows lie in slot `s` of the staging buffers. -/
def stgOrig (c : Dev nD) (s : Fin 4) : Dev nD := mkDev (oz (zOf c) s) (jOf c)

/-! ## Buffers and semaphores -/

abbrev RowRef := Memref sig .tc .vmem S64x4096 .f32

/-- The staging buffer of a quarter. -/
def stg : Fin 4 → Memref sig .tc .vmem S4x64x4096 .f32
  | 0 => Memref.whole cc0_scratch0
  | 1 => Memref.whole cc0_scratch1
  | 2 => Memref.whole cc0_scratch2
  | 3 => Memref.whole cc0_scratch3

/-- The ring buffer of a quarter. -/
def pbuf : Fin 4 → Memref sig .tc .vmem S3x64x4096 .f32
  | 0 => Memref.whole cc0_scratch4
  | 1 => Memref.whole cc0_scratch5
  | 2 => Memref.whole cc0_scratch6
  | 3 => Memref.whole cc0_scratch7

theorem stg_inb (s : Fin 4) : ∀ a, (![s.val, 0, 0] : Fin 3 → Nat) a + S1x64x4096.size a ≤ S4x64x4096.size a := by
  revert s; decide

theorem pbuf_inb (s : Fin 3) : ∀ a, (![s.val, 0, 0] : Fin 3 → Nat) a + S1x64x4096.size a ≤ S3x64x4096.size a := by
  revert s; decide

/-- The rectangle of slot `s` of a staging buffer. -/
abbrev stgRect (s : Fin 4) : Rect S4x64x4096 := Rect.unit (s := S4x64x4096) ![s.val, 0, 0] S1x64x4096.size (stg_inb s)

/-- The rectangle of slot `s` of a ring buffer. -/
abbrev pbufRect (s : Fin 3) : Rect S3x64x4096 := Rect.unit (s := S3x64x4096) ![s.val, 0, 0] S1x64x4096.size (pbuf_inb s)

/-- Slot `s` of the staging buffer of a quarter, as a block of 64 rows. -/
def stgRow (qt : Fin 4) (s : Fin 4) : RowRef :=
  ((stg qt).slice (stgRect s) (fun _ => rfl)).squeeze S64x4096 squeezes_S1x64x4096_S64x4096

/-- Slot `s` of the ring buffer of a quarter, as a block of 64 rows. -/
def pbufRow (qt : Fin 4) (s : Fin 3) : RowRef :=
  ((pbuf qt).slice (pbufRect s) (fun _ => rfl)).squeeze S64x4096 squeezes_S1x64x4096_S64x4096

/-- The semaphores of a device: the barrier's, the exit's, a credit counter per quarter, and those of the
    transfers (`zs`, `zr`: the planes' sends and receipts, upward or not, by step and quarter; `hs`: the first hop of a
    phase; `ps`, `pr`: the hops' sends and receipts, by hop). -/
inductive Key
  | bar | exit
  | cred (qt : Fin 4)
  | zs (up : Bool) (kk : Fin 3) (qt : Fin 4)
  | zr (up : Bool) (kk : Fin 3) (qt : Fin 4)
  | hs (qt : Fin 4) (r : Fin 4)
  | ps (qt : Fin 4) (h : Fin 3)
  | pr (qt : Fin 4) (h : Fin 3)
  deriving DecidableEq

/-- Where the twelve semaphores of the planes' transfers start. -/
def zBase (up recv : Bool) : Nat := (if up then 3 else 27) + (if recv then 12 else 0)

theorem zBase_le (up recv : Bool) : zBase up recv ≤ 39 := by revert up recv; decide

def zSem (up recv : Bool) (kk : Fin 3) (qt : Fin 4) : DmaSem sig :=
  (⟨zBase up recv + (4 * kk.val + qt.val), by
    have := zBase_le up recv; have := kk.isLt; have := qt.isLt; omega⟩ : Fin 91)

def hsSem (qt r : Fin 4) : DmaSem sig := (⟨51 + 4 * qt.val + r.val, by have := qt.isLt; have := r.isLt; omega⟩ : Fin 91)
def psSem (qt : Fin 4) (h : Fin 3) : DmaSem sig :=
  (⟨67 + 3 * qt.val + h.val, by have := qt.isLt; have := h.isLt; omega⟩ : Fin 91)
def prSem (qt : Fin 4) (h : Fin 3) : DmaSem sig :=
  (⟨79 + 3 * qt.val + h.val, by have := qt.isLt; have := h.isLt; omega⟩ : Fin 91)
def crSem (qt : Fin 4) : Sem sig := (⟨qt.val, by have := qt.isLt; omega⟩ : Fin 6)
def exSem : Sem sig := (4 : Fin 6)
def barSem : Sem sig := barrier0

/-- The source of the transfer of phase `r`, hop `h`, and the semaphore its sender waits on. -/
def rSrc (r : Fin 4) (h : Fin 3) (qt : Fin 4) : RowRef :=
  match h with
  | 0 => stgRow qt r
  | 1 => pbufRow qt 0
  | 2 => pbufRow qt 1

theorem stg_exact (qt s : Fin 4) : (stgRow qt s).view.WordExact := (View.wordExact_bits rfl).reshape _ _

theorem pbuf_exact (qt : Fin 4) (s : Fin 3) : (pbufRow qt s).view.WordExact := (View.wordExact_bits rfl).reshape _ _

theorem rSrc_exact (r : Fin 4) (h : Fin 3) (qt : Fin 4) : (rSrc r h qt).view.WordExact :=
  match h with
  | 0 => stg_exact _ _
  | 1 => pbuf_exact _ _
  | 2 => pbuf_exact _ _

def rSem (r : Fin 4) (h : Fin 3) (qt : Fin 4) : DmaSem sig :=
  match h with
  | 0 => hsSem qt r
  | 1 => psSem qt 1
  | 2 => psSem qt 2

/-! ## Values -/

section

variable {F : FTy → Type} [FloatOps F]

/-- The activation, entry by entry. -/
def gelu {s : Shape} (y : FVec F s .f32) : FVec F s .f32 :=
  mulf (mulf (broadcast s (Scalar.ofBits .f32 0x3F000000#32)) y)
    (addf (broadcast s (Scalar.ofBits .f32 0x3F800000#32))
      (tanh (mulf (broadcast s (Scalar.ofBits .f32 0x3F4C422A#32))
        (addf y (mulf (mulf (mulf (broadcast s (Scalar.ofBits .f32 0x3D372713#32)) y) y) y)))))

/-- 64 rows times the device's columns, activated. -/
def val64 (a : Vec F S1x64x4096 .f32) (w : Vec F S4096x512 .f32) : FVec F S64x512 .f32 :=
  gelu (matmul dot_S64x4096_S4096x512_S64x512_1_0_0_1_n_n none
    (shapeCast S64x4096 a shapeCasts_S1x64x4096_S64x4096) (shapeCast S4096x512 w shapeCasts_S4096x512_S4096x512)
    (constant S64x512 .f32 0x00000000#32))

/-- The device's own 256 rows times its columns, activated. -/
def val256 (a : Vec F S256x4096 .f32) (w : Vec F S4096x512 .f32) : FVec F S256x512 .f32 :=
  gelu (matmul dot_S256x4096_S4096x512_S256x512_1_0_0_1_n_n none
    (shapeCast S256x4096 a shapeCasts_S256x4096_S256x4096) (shapeCast S4096x512 w shapeCasts_S4096x512_S4096x512)
    (constant S256x512 .f32 0x00000000#32))

/-- A quarter of the device's rows, as the staging slot holds it. -/
def quarter (a : Vec F S64x4096 .f32) : FVec F S1x64x4096 .f32 :=
  shapeCast S1x64x4096 (shapeCast S64x4096 a shapeCasts_S64x4096_S64x4096) shapeCasts_S64x4096_S1x64x4096

end

theorem x_inb (qt : Fin 4) : ∀ a, (![64 * qt.val, 0] : Fin 2 → Nat) a + S64x4096.size a ≤ S256x4096.size a := by
  revert qt; decide

theorem o64_inb (o : Dev nD) (qt : Fin 4) :
    ∀ a, (![256 * o.val + 64 * qt.val, 0] : Fin 2 → Nat) a + S64x512.size a ≤ S4096x512.size a := by
  have h1 : o.val < 16 := o.isLt
  have h2 := qt.isLt
  intro a
  fin_cases a
  · show 256 * o.val + 64 * qt.val + 64 ≤ 4096
    omega
  · show 0 + 512 ≤ 512
    omega

theorem o256_inb (o : Dev nD) : ∀ a, (![256 * o.val, 0] : Fin 2 → Nat) a + S256x512.size a ≤ S4096x512.size a := by
  have h1 : o.val < 16 := o.isLt
  intro a
  fin_cases a
  · show 256 * o.val + 256 ≤ 4096
    omega
  · show 0 + 512 ≤ 512
    omega

/-- A quarter of the rows of the device's block. -/
abbrev xRect (qt : Fin 4) : Rect S256x4096 := Rect.unit (s := S256x4096) ![64 * qt.val, 0] S64x4096.size (x_inb qt)

/-- The 64 rows of the result that come from quarter `qt` of device `o`'s block. -/
abbrev o64 (o : Dev nD) (qt : Fin 4) : Rect S4096x512 :=
  Rect.unit (s := S4096x512) ![256 * o.val + 64 * qt.val, 0] S64x512.size (o64_inb o qt)

/-- The 256 rows of the result that come from device `o`'s block. -/
abbrev o256 (o : Dev nD) : Rect S4096x512 := Rect.unit (s := S4096x512) ![256 * o.val, 0] S256x512.size (o256_inb o)

/-! ## Operations -/

/-- The operations of the body. -/
inductive Op
  /-- signal the barrier (or the exit) semaphore of a neighbour -/
  | bsig (exit : Bool) (n : Nbr)
  /-- wait on the own one: for two units, then for one from each plane beside this one -/
  | bwait (exit : Bool) (w : Fin 3)
  /-- copy a quarter of the own rows into staging slot 0 -/
  | copyX (qt : Fin 4)
  /-- send a staging slot to the plane above or below -/
  | zsend (up : Bool) (kk : Fin 3) (src dst qt : Fin 4)
  /-- wait for one to arrive, and for one to have left -/
  | zrecv (up : Bool) (kk : Fin 3) (dst qt : Fin 4)
  | zsent (up : Bool) (kk : Fin 3) (src dst qt : Fin 4)
  /-- a hop along the ring: send, wait for one to arrive, wait for one to have left -/
  | rsend (r : Fin 4) (h : Fin 3) (qt : Fin 4)
  | rrecv (r : Fin 4) (h : Fin 3) (qt : Fin 4)
  | rsent (r : Fin 4) (h : Fin 3) (qt : Fin 4)
  /-- give a credit back, wait for one; the `i`-th of its quarter -/
  | csig (qt : Fin 4) (i : Fin 9)
  | cwait (qt : Fin 4) (i : Fin 9)
  /-- the product of the own rows, of a ring slot's, of a staging slot's -/
  | gemm0
  | rgemm (r : Fin 4) (h : Fin 3) (qt : Fin 4)
  | zgemm (s qt : Fin 4)
  deriving DecidableEq

section

variable {F : FTy → Type} [FloatOps F]

abbrev BProg (F : FTy → Type) [FloatOps F] := Prog (TpuEff nD τ sig (Elt F) Λ₀ .tc) PUnit

variable (x : Memref sig .tc .vmem S256x4096 .f32) (w o : Memref sig .tc .vmem S4096x512 .f32) (c : Dev nD)

/-- The product of a slot's rows and the store of its result. -/
def storeRows {s : Shape} (m : Memref sig .tc .vmem s .f32) (r : LoadRect s) (hl : m.view.LoadsAt r)
    (cast : (r.shape.Idx → Elt F .f32) → Vec F S1x64x4096 .f32) (og : Dev nD) (qt : Fin 4) (k : BProg F) : BProg F :=
  .op (.load m r hl) fun a =>
  .op (.load w (Rect.unit (s := S4096x512) ![0, 0] S4096x512.size inb_S4096x512_S4096x512_0_0).toLoadRect
    (View.loadsAt_vmem h_S4096x512)) fun b =>
  .op (.load o (o64 og qt).toLoadRect (View.loadsAt_vmem h_S64x512)) fun _ =>
  .op (.store o (o64 og qt) (val64 (cast a) b) Finset.univ (View.stores_vmem_bits_univ h_S64x512 rfl) (.inl rfl))
    fun _ => k

/-- What an operation runs, followed by `k`. -/
def Op.run (op : Op) (k : BProg F) : BProg F :=
  match op with
  | .bsig ex n => .op (.semSignal (nbr n c, .tc) (if ex then exSem else barSem) 1) fun _ => k
  | .bwait ex a => .op (.semWait (if ex then exSem else barSem) (if a = 0 then 2 else 1)) fun _ => k
  | .copyX qt =>
    .op (.load x (xRect qt).toLoadRect (View.loadsAt_vmem h_S64x4096)) fun a =>
    .op (.load (stg qt) (stgRect 0).toLoadRect (View.loadsAt_vmem h_S1x64x4096)) fun _ =>
    .op (.store (stg qt) (stgRect 0) (quarter a) Finset.univ (View.stores_vmem_bits_univ h_S1x64x4096 rfl) (.inl rfl))
      fun _ => k
  | .zsend up kk src dst qt =>
    .op (.enqueueDma (stgRow qt src)
      (.remote (Dev.tc (nbr (if up then .u else .d) c)) (stgRow qt dst) (.dma (zSem up false kk qt)))
      (.dma (zSem up true kk qt)) (stg_exact _ _) (stg_exact _ _)
      ⟨⟨rfl, Or.inl rfl⟩, trivial⟩) fun _ => k
  | .zrecv up kk dst qt =>
    .op (.waitDma2 (zSem up true kk qt) (stgRow qt 0) (stgRow qt dst)
      (stg_exact _ _) (stg_exact _ _)) fun _ => k
  | .zsent up kk src dst qt =>
    .op (.waitDma2 (zSem up false kk qt) (stgRow qt dst) (stgRow qt src)
      (stg_exact _ _) (stg_exact _ _)) fun _ => k
  | .rsend r h qt =>
    .op (.enqueueDma (rSrc r h qt)
      (.remote (Dev.tc (nbr (qdir qt) c)) (pbufRow qt h) (.dma (rSem r h qt)))
      (.dma (prSem qt h)) (rSrc_exact _ _ _) (pbuf_exact _ _)
      ⟨⟨rfl, Or.inl rfl⟩, trivial⟩) fun _ => k
  | .rrecv r h qt =>
    .op (.waitDma2 (prSem qt h) (rSrc r h qt) (pbufRow qt h)
      (rSrc_exact _ _ _) (pbuf_exact _ _)) fun _ => k
  | .rsent r h qt =>
    .op (.waitDma2 (rSem r h qt) (pbufRow qt h) (rSrc r h qt)
      (pbuf_exact _ _) (rSrc_exact _ _ _)) fun _ => k
  | .csig qt _ => .op (.semSignal (nbr (qdir qt).back c, .tc) (crSem qt) 1) fun _ => k
  | .cwait qt _ => .op (.semWait (crSem qt) 1) fun _ => k
  | .gemm0 =>
    .op (.load x (Rect.unit (s := S256x4096) ![0, 0] S256x4096.size inb_S256x4096_S256x4096_0_0).toLoadRect
      (View.loadsAt_vmem h_S256x4096)) fun a =>
    .op (.load w (Rect.unit (s := S4096x512) ![0, 0] S4096x512.size inb_S4096x512_S4096x512_0_0).toLoadRect
      (View.loadsAt_vmem h_S4096x512)) fun b =>
    .op (.load o (o256 c).toLoadRect (View.loadsAt_vmem h_S256x512)) fun _ =>
    .op (.store o (o256 c) (val256 a b) Finset.univ (View.stores_vmem_bits_univ h_S256x512 rfl) (.inl rfl))
      fun _ => k
  | .rgemm r h qt =>
    storeRows w o (pbuf qt) (pbufRect h).toLoadRect (View.loadsAt_vmem h_S1x64x4096) (fun a => a)
      (ringOrig c r h qt) qt k
  | .zgemm s qt =>
    storeRows w o (stg qt) (stgRect s).toLoadRect (View.loadsAt_vmem h_S1x64x4096) (fun a => a) (stgOrig c s) qt k

/-- A list of operations, run in order. -/
def runOps : List Op → BProg F
  | [] => .ret ⟨⟩
  | op :: ops => op.run x w o c (runOps ops)

end

/-! ## The list -/

/-- The quarters in the order the hops take them. -/
def qOrder : List (Fin 4) := [0, 2, 1, 3]
/-- The quarters in their own order. -/
def qAll : List (Fin 4) := [0, 1, 2, 3]

/-- The slots device plane `z` sends up (`true`) or down in step `kk`: from which slot into which. -/
def sendTab (up : Bool) (kk : Fin 3) (z : Fin 4) : List (Fin 4 × Fin 4) :=
  match up, kk, z with
  | true, 0, 0 => [(0, 1)] | true, 0, 1 => [(0, 1)] | true, 0, 2 => [(0, 1)]
  | true, 1, 1 => [(1, 3)] | true, 1, 2 => [(1, 2)]
  | true, 2, 2 => [(3, 3)]
  | false, 0, 1 => [(0, 1)] | false, 0, 2 => [(0, 2)] | false, 0, 3 => [(0, 2)]
  | false, 1, 1 => [(2, 2)] | false, 1, 2 => [(2, 3)]
  | false, 2, 1 => [(3, 3)]
  | _, _, _ => []

/-- The slots plane `z` receives from below (`true`) or above in step `kk`. -/
def recvTab (up : Bool) (kk : Fin 3) (z : Fin 4) : List (Fin 4) :=
  match up, kk, z with
  | true, 0, 1 => [1] | true, 0, 2 => [1] | true, 0, 3 => [1]
  | true, 1, 2 => [3] | true, 1, 3 => [2]
  | true, 2, 3 => [3]
  | false, 0, 0 => [1] | false, 0, 1 => [2] | false, 0, 2 => [2]
  | false, 1, 0 => [2] | false, 1, 1 => [3]
  | false, 2, 0 => [3]
  | _, _, _ => []

/-- The planes' sends of step `kk`. -/
def zSends (z : Fin 4) (kk : Fin 3) : List Op :=
  [true, false].flatMap fun up => (sendTab up kk z).flatMap fun p => qAll.map fun qt => .zsend up kk p.1 p.2 qt

/-- The neighbours of plane `z`: both along the ring, and the planes beside it. -/
def nbrs (z : Fin 4) : List Nbr :=
  [.l, .r] ++ (if z.val < 3 then [.u] else []) ++ (if 0 < z.val then [.d] else [])

/-- The waits that gather one unit of every neighbour. -/
def bwaits (z : Fin 4) (ex : Bool) : List Op :=
  [.bwait ex 0] ++ (if z.val < 3 then [.bwait ex 1] else []) ++ (if 0 < z.val then [.bwait ex 2] else [])

/-- The rows of the planes' step `kk`: wait, send on, multiply. -/
def zBlock (z : Fin 4) (kk : Fin 3) : List Op :=
  ([true, false].flatMap fun up => (recvTab up kk z).flatMap fun s => qAll.map fun qt => .zrecv up kk s qt) ++
  (match kk with | 0 => zSends z 1 | 1 => zSends z 2 | 2 => []) ++
  ([true, false].flatMap fun up => (recvTab up kk z).flatMap fun s => qAll.map fun qt => .zgemm s qt)

/-- The credit a hop waits for, and the one it gives back. -/
def cWaits (r : Fin 4) (h : Fin 3) (qt : Fin 4) : List Op :=
  if 3 ≤ 3 * r.val + h.val then [.cwait qt (Fin.ofNat 9 (3 * r.val + h.val - 3))] else []

def cSigs (r : Fin 4) (h : Fin 3) : List Op :=
  if 1 ≤ 3 * r.val + h.val ∧ 3 * r.val + h.val ≤ 9 then
    qAll.map fun qt => .csig qt (Fin.ofNat 9 (3 * r.val + h.val - 1)) else []

/-- The hop before. -/
def prevHop (r : Fin 4) (h : Fin 3) : Option (Fin 4 × Fin 3) :=
  match h with
  | 0 => if r.val = 0 then none else some (r + 3, 2)
  | 1 => some (r, 0)
  | 2 => some (r, 1)

/-- A hop of the ring. -/
def hop (z : Fin 4) (r : Fin 4) (h : Fin 3) : List Op :=
  (qOrder.flatMap fun qt =>
    (match prevHop r h with | none => [] | some p => [.rrecv p.1 p.2 qt]) ++ cWaits r h qt ++ [.rsend r h qt]) ++
  (match prevHop r h with | none => [.gemm0] | some p => qAll.map fun qt => .rgemm p.1 p.2 qt) ++
  (if h.val = 0 then [] else qOrder.map fun qt => .rsent r h qt) ++
  cSigs r h ++
  (match r, h with | 0, 2 => zBlock z 0 | 1, 2 => zBlock z 1 | 2, 2 => zBlock z 2 | _, _ => [])

/-- The whole body of a device of plane `z`. -/
def opsZ (z : Fin 4) : List Op :=
  (nbrs z).map (.bsig false) ++ bwaits z false ++ qAll.map .copyX ++ zSends z 0 ++
  (([0, 1, 2, 3] : List (Fin 4)).flatMap fun r => ([0, 1, 2] : List (Fin 3)).flatMap fun h => hop z r h) ++
  (qOrder.flatMap fun qt => [.rrecv 3 2 qt, .rgemm 3 2 qt]) ++
  (([0, 1, 2, 3] : List (Fin 4)).flatMap fun r => qAll.map fun qt => .rsent r 0 qt) ++
  (([0, 1, 2] : List (Fin 3)).flatMap fun kk => [true, false].flatMap fun up =>
    (sendTab up kk z).flatMap fun p => qAll.map fun qt => .zsent up kk p.1 p.2 qt) ++
  (nbrs z).map (.bsig true) ++ bwaits z true

end Cert.Proof.K
-- ==== Proof.Plan.lean ====
/- What each operation of the list takes and leaves, as data.

   A device's holdings are listed by names (`Res`); what a name stands for is said in module Protocol. Here is only the
   bookkeeping: what an operation needs (`needs`) and gives back (`leaves`), that the lists of the four planes never
   lack anything (`plan_ok`), that every wait is of a lower level than all payments that follow it (`levels_ok`), and
   that what the neighbours pay a device is what it waits for (`dues_ok`). All of it is computed. -/
module

public import proofs.«01_k».proof.Proof.Prog
public import Mathlib.Data.List.Perm.Basic
public import Mathlib.Data.Fintype.Prod

@[expose] public section

namespace Cert.Proof.K

open Idealize.ShloMosaic Cert.KernelIdeal

/-! ## Names -/

def allKeys : List Key :=
  [.bar, .exit] ++ qAll.map .cred ++
  [true, false].flatMap (fun up => [0, 1, 2].flatMap fun kk => qAll.map fun qt => .zs up kk qt) ++
  [true, false].flatMap (fun up => [0, 1, 2].flatMap fun kk => qAll.map fun qt => .zr up kk qt) ++
  qAll.flatMap (fun qt => qAll.map fun r => .hs qt r) ++
  qAll.flatMap (fun qt => [0, 1, 2].map fun h => .ps qt h) ++
  qAll.flatMap (fun qt => [0, 1, 2].map fun h => .pr qt h)

theorem mem_allKeys (k : Key) : k ∈ allKeys := by
  have h2 : ∀ a b : Fin 4, Key.hs a b ∈ allKeys := by decide
  have h3 : ∀ (a : Fin 4) (b : Fin 3), Key.ps a b ∈ allKeys ∧ Key.pr a b ∈ allKeys := by decide
  have h4 : ∀ (u : Bool) (a : Fin 3) (b : Fin 4), Key.zs u a b ∈ allKeys ∧ Key.zr u a b ∈ allKeys := by decide
  have h1 : ∀ a : Fin 4, Key.cred a ∈ allKeys := by decide
  cases k with
  | bar => decide
  | exit => decide
  | cred a => exact h1 a
  | zs u a b => exact (h4 u a b).1
  | zr u a b => exact (h4 u a b).2
  | hs a b => exact h2 a b
  | ps a b => exact (h3 a b).1
  | pr a b => exact (h3 a b).2

instance : Fintype Key := ⟨allKeys.toFinset, fun k => List.mem_toFinset.mpr (mem_allKeys k)⟩

theorem allKeys_nodup : allKeys.Nodup := by decide +kernel

/-- Where payments go: a key's payer is a neighbour of its owner, or the owner itself. -/
def Nbr.code : Nbr → Fin 9
  | .l => 0
  | .r => 1
  | .u => 2
  | .d => 3

/-- The plane beside plane `z` in a direction. -/
def nz (n : Nbr) (z : Fin 4) : Fin 4 :=
  match n with
  | .l => z
  | .r => z
  | .u => z + 1
  | .d => z + 3

/-- Holdings of memory that can be handed over. -/
inductive Dat
  /-- a slot of the own staging or ring buffers at unknown contents -/
  | rawS (s qt : Fin 4)
  | rawP (h : Fin 3) (qt : Fin 4)
  /-- a slot of a neighbour's, to be written -/
  | peerS (up : Bool) (s qt : Fin 4)
  | peerP (h : Fin 3) (qt : Fin 4)
  /-- the `i`-th part of a filled staging slot, of a ring slot filled in phase `r` -/
  | row (s qt : Fin 4) (i : Fin 4)
  | hop (r : Fin 4) (h : Fin 3) (qt : Fin 4) (i : Fin 2)
  deriving DecidableEq

/-- Everything a device holds. -/
inductive Res
  | dat (d : Dat)
  /-- the own key `k` stands at round `r` -/
  | pos (k : Key) (r : Nat)
  /-- `m` units of round 0 have been taken, with what they hand over -/
  | part (k : Key) (m : Nat)
  /-- the own key, or the ring neighbour's, has reached a round -/
  | reach (k : Key) (r : Nat)
  | reachP (h : Fin 3) (qt : Fin 4) (r : Nat)
  /-- a transfer of the own is under way -/
  | crd (k : Key)
  /-- the ring slot has been given back `n` times -/
  | rd (h : Fin 3) (qt : Fin 4) (n : Nat)
  /-- what the first `n` credits of a quarter say -/
  | facts (qt : Fin 4) (n : Nat)
  deriving DecidableEq

/-! ## What is handed over -/

/-- The slots of the neighbour in direction `n` that a device of plane `z` writes first. -/
def gifts (z : Fin 4) (n : Nbr) : List Dat :=
  match n with
  | .l => ([2, 3] : List (Fin 4)).flatMap fun qt => ([0, 1, 2] : List (Fin 3)).map fun h => .peerP h qt
  | .r => ([0, 1] : List (Fin 4)).flatMap fun qt => ([0, 1, 2] : List (Fin 3)).map fun h => .peerP h qt
  | .u => ([0, 1, 2] : List (Fin 3)).flatMap fun kk => (sendTab true kk z).flatMap fun p => qAll.map fun qt => .peerS true p.2 qt
  | .d => ([0, 1, 2] : List (Fin 3)).flatMap fun kk => (sendTab false kk z).flatMap fun p => qAll.map fun qt => .peerS false p.2 qt

/-- A neighbour's slot as the neighbour names it. -/
def Dat.mirror : Dat → Dat
  | .peerS _ s qt => .rawS s qt
  | .peerP h qt => .rawP h qt
  | d => d

def rows (s qt : Fin 4) : List Dat := [.row s qt 0, .row s qt 1, .row s qt 2, .row s qt 3]
def hops (r : Fin 4) (h : Fin 3) (qt : Fin 4) : List Dat := [.hop r h qt 0, .hop r h qt 1]

/-- The part of a staging slot that the planes' transfers read. -/
def zPart (up : Bool) : Fin 4 := if up then 1 else 2

/-- What the ring's transfer of phase `r`, hop `h` reads, and the key its sender waits on, at which round. -/
def rDat (r : Fin 4) (h : Fin 3) (qt : Fin 4) : Dat :=
  match h with
  | 0 => .row r qt 0
  | 1 => .hop r 0 qt 0
  | 2 => .hop r 1 qt 0
def rKey (r : Fin 4) (h : Fin 3) (qt : Fin 4) : Key :=
  match h with
  | 0 => .hs qt r
  | 1 => .ps qt 1
  | 2 => .ps qt 2
def rRound (r : Fin 4) (h : Fin 3) : Fin 4 :=
  match h with
  | 0 => 0
  | _ => r

/-- The source slot of the planes' sends of step `kk`, the slot of its receipts. -/
def srcSlot (up : Bool) (kk : Fin 3) (z : Fin 4) : Fin 4 := ((sendTab up kk z).map Prod.fst).headD 0
def dstSlot (up : Bool) (kk : Fin 3) (z : Fin 4) : Fin 4 := (recvTab up kk z).headD 0

/-- The number of rounds of a key at plane `z`. -/
def rounds (z : Fin 4) : Key → Nat
  | .bar => 1
  | .exit => 1
  | .cred _ => 1
  | .zs up kk _ => if (sendTab up kk z).isEmpty then 0 else 1
  | .zr up kk _ => if (recvTab up kk z).isEmpty then 0 else 1
  | .hs _ _ => 1
  | .ps _ h => if h.val = 0 then 0 else 4
  | .pr _ _ => 4

/-- The payments due in each round. -/
def dutyL (z : Fin 4) : Key → List (Fin 9)
  | .bar => (nbrs z).map Nbr.code
  | .exit => (nbrs z).map Nbr.code
  | .cred _ => [0, 1, 2, 3, 4, 5, 6, 7, 8]
  | _ => [0]

/-- The direction a payment's number names. -/
def nbrOf (d : Fin 9) : Nbr := if d.val = 0 then .l else if d.val = 1 then .r else if d.val = 2 then .u else .d

/-- What a payment hands over, credits aside. -/
def payD (z : Fin 4) (k : Key) (r : Nat) (d : Fin 9) : List Dat :=
  match k with
  | .bar => gifts z (nbrOf d)
  | .exit => []
  | .cred _ => []
  | .zs up kk qt => [.row (srcSlot up kk z) qt (zPart up)]
  | .zr up kk qt => rows (dstSlot up kk z) qt
  | .hs qt r => [.row r qt 0]
  | .ps qt h => [.hop (Fin.ofNat 4 r) (h - 1) qt 0]
  | .pr qt h => hops (Fin.ofNat 4 r) h qt

/-! ## Needs and leaves -/

def bKey (ex : Bool) : Key := if ex then .exit else .bar

/-- The units a wait takes, and those taken before it. -/
def bAmt (a : Fin 3) : Nat := if a = 0 then 2 else 1
def bBefore (z : Fin 4) (a : Fin 3) : Nat :=
  match a with
  | 0 => 0
  | 1 => 2
  | 2 => if z.val < 3 then 3 else 2

def partRes (k : Key) (m : Nat) : Res := if m = 0 then .pos k 0 else .part k m

def bGives (z : Fin 4) (ex : Bool) : List Dat := if ex then [] else (nbrs z).flatMap (gifts z)

/-- The hop whose slot the `i`-th credit is about. -/
def cR (i : Fin 9) : Fin 4 := Fin.ofNat 4 (i.val / 3)
def cH (i : Fin 9) : Fin 3 := Fin.ofNat 3 i.val

def needs (z : Fin 4) : Op → List Res
  | .bsig ex n => if ex then [] else (gifts (nz n z) n.back).map fun d => .dat d.mirror
  | .bwait ex a => [partRes (bKey ex) (bBefore z a)]
  | .copyX qt => [.dat (.rawS 0 qt)]
  | .zsend up _ src dst qt => [.dat (.row src qt (zPart up)), .dat (.peerS up dst qt)]
  | .zrecv up kk _ qt => [.pos (.zr up kk qt) 0]
  | .zsent up kk _ _ qt => [.pos (.zs up kk qt) 0, .crd (.zs up kk qt)]
  | .rsend r h qt => [.dat (rDat r h qt), .dat (.peerP h qt), .reachP h qt r.val, .reach (rKey r h qt) (rRound r h).val]
  | .rrecv r h qt => [.pos (.pr qt h) r.val]
  | .rsent r h qt => [.pos (rKey r h qt) (rRound r h).val, .crd (rKey r h qt)]
  | .csig qt i => [.dat (.hop (cR i) (cH i) qt 0), .dat (.hop (cR i) (cH i) qt 1), .rd (cH i) qt (i.val / 3),
      .reach (.pr qt (cH i)) (i.val / 3 + 1), .facts qt i.val]
  | .cwait qt i => [partRes (.cred qt) i.val]
  | .gemm0 => []
  | .rgemm r h qt => [.dat (.hop r h qt 1)]
  | .zgemm s qt => [.dat (.row s qt 3)]

def leaves (z : Fin 4) : Op → List Res
  | .bsig _ _ => []
  | .bwait ex a =>
    if bBefore z a + bAmt a = (nbrs z).length then .pos (bKey ex) 1 :: (bGives z ex).map .dat
    else [.part (bKey ex) (bBefore z a + bAmt a)]
  | .copyX qt => (rows 0 qt).map .dat
  | .zsend up kk _ _ qt => [.crd (.zs up kk qt)]
  | .zrecv up kk dst qt => .pos (.zr up kk qt) 1 :: (rows dst qt).map .dat
  | .zsent up kk src _ qt => [.pos (.zs up kk qt) 1, .dat (.row src qt (zPart up))]
  | .rsend r h qt => [.crd (rKey r h qt)]
  | .rrecv r h qt => .pos (.pr qt h) (r.val + 1) :: .reach (.pr qt h) (r.val + 1) :: (hops r h qt).map .dat
  | .rsent r h qt => [.pos (rKey r h qt) ((rRound r h).val + 1), .reach (rKey r h qt) ((rRound r h).val + 1), .dat (rDat r h qt)]
  | .csig qt i => [.rd (cH i) qt (i.val / 3 + 1), .facts qt (i.val + 1)]
  | .cwait qt i => [if i.val = 8 then .pos (.cred qt) 1 else .part (.cred qt) (i.val + 1), .dat (.peerP (cH i) qt), .reachP (cH i) qt (i.val / 3 + 1)]
  | .gemm0 => []
  | .rgemm r h qt => [.dat (.hop r h qt 1)]
  | .zgemm s qt => [.dat (.row s qt 3)]

/-- Take a holding out of a list. -/
def pick (a : Res) : List Res → Option (List Res)
  | [] => none
  | b :: l => if a = b then some l else (pick a l).map (b :: ·)

/-- Take some holdings out of a list. -/
def take : List Res → List Res → Option (List Res)
  | [], st => some st
  | a :: l, st =>
    match pick a st with
    | none => none
    | some st' => take l st'

/-- Run the bookkeeping of a list of operations. -/
def exec (z : Fin 4) : List Op → List Res → Option (List Res)
  | [], st => some st
  | op :: ops, st =>
    match take (needs z op) st with
    | none => none
    | some st' => exec z ops (leaves z op ++ st')

/-- What a device starts from. -/
def initR : List Res :=
  (qAll.flatMap fun s => qAll.map fun qt => .dat (.rawS s qt)) ++
  (([0, 1, 2] : List (Fin 3)).flatMap fun h => qAll.map fun qt => .dat (.rawP h qt)) ++
  (qAll.map fun qt => .facts qt 0) ++
  (([0, 1, 2] : List (Fin 3)).flatMap fun h => qAll.map fun qt => .rd h qt 0) ++
  (([0, 1, 2] : List (Fin 3)).flatMap fun h => qAll.map fun qt => .reachP h qt 0) ++
  (qAll.flatMap fun qt => qAll.map fun r => .reach (.hs qt r) 0) ++
  (([1, 2] : List (Fin 3)).flatMap fun h => qAll.map fun qt => .reach (.ps qt h) 0) ++
  (allKeys.map fun k => .pos k 0)

/-- What it ends with. -/
def finalR (z : Fin 4) : List Res :=
  (qAll.flatMap fun s => qAll.flatMap fun qt => (rows s qt).map .dat) ++
  (([0, 1, 2] : List (Fin 3)).flatMap fun h => qAll.flatMap fun qt => (hops 3 h qt).map .dat) ++
  (allKeys.map fun k => .pos k (rounds z k))

set_option maxHeartbeats 4000000 in
/-- No operation lacks anything, and in the end everything is there. -/
theorem plan_ok (z : Fin 4) : ∃ st, exec z (opsZ z) initR = some st ∧ ∃ st', take (finalR z) st = some st' := by
  have h : ∀ z : Fin 4, ((exec z (opsZ z) initR).bind (take (finalR z))).isSome = true := by decide +kernel
  have := h z
  cases hx : exec z (opsZ z) initR with
  | none => rw [hx] at this; exact (Bool.false_ne_true this).elim
  | some st =>
    rw [hx] at this
    exact ⟨st, rfl, Option.isSome_iff_exists.mp this⟩

/-! ## Payments and levels -/

/-- The level of a payment. -/
def lvl (k : Key) (r : Nat) (d : Fin 9) : Nat :=
  match k with
  | .bar => 1
  | .exit => 1000
  | .cred _ => 10 * d.val + 25
  | .zr _ kk _ => 30 * kk.val + 7
  | .pr _ h => 10 * (3 * r + h.val) + 10
  | _ => 0

/-- What an operation pays a neighbour: in which direction, on which key, in which round, as which payment. -/
def payOf : Op → Option (Nbr × Key × Fin 4 × Fin 9)
  | .bsig ex n => some (n, bKey ex, 0, n.back.code)
  | .zsend up kk _ _ qt => some (if up then .u else .d, .zr up kk qt, 0, 0)
  | .rsend r h qt => some (qdir qt, .pr qt h, r, 0)
  | .csig qt i => some ((qdir qt).back, .cred qt, 0, i)
  | _ => none

/-- What it pays itself: the transfers, when they have left. -/
def ownOf : Op → Option (Key × Fin 4 × Fin 9)
  | .zsend up kk _ _ qt => some (.zs up kk qt, 0, 0)
  | .rsend r h qt => some (rKey r h qt, rRound r h, 0)
  | _ => none

/-- The level a payment is made at. -/
def payLv (o : Op) : Option Nat := (payOf o).map fun p => lvl p.2.1 p.2.2.1.val p.2.2.2

/-- The units an operation waits for: the key and their level. -/
def waitU : Op → List (Key × Nat)
  | .bwait ex a => List.replicate (bAmt a) (bKey ex, lvl (bKey ex) 0 0)
  | .zrecv up kk _ qt => [(.zr up kk qt, lvl (.zr up kk qt) 0 0)]
  | .rrecv r h qt => [(.pr qt h, lvl (.pr qt h) r.val 0)]
  | .cwait qt i => [(.cred qt, lvl (.cred qt) 0 i)]
  | _ => []

/-- The level an operation waits at (0 where it waits for its own transfers). -/
def waitLv (o : Op) : Nat := ((waitU o).map Prod.snd).headD 0

/-- Every wait is below everything paid later. -/
def levelsOk : List Op → Bool
  | [] => true
  | o :: os => (os.filterMap payLv).all (fun l => waitLv o < l && l < 2000) && levelsOk os

theorem levels_ok (z : Fin 4) : levelsOk (opsZ z) = true := by
  revert z; decide +kernel

/-- What the neighbours of a device of plane `z` pay it, and what it waits for. -/
def inL (z : Fin 4) : List (Key × Nat) :=
  ([.l, .r, .u, .d] : List Nbr).flatMap fun n => (opsZ (nz n z)).filterMap fun o =>
    match payOf o with
    | some p => if p.1 = n.back then some (p.2.1, lvl p.2.1 p.2.2.1.val p.2.2.2) else none
    | none => none

theorem dues_ok (z : Fin 4) : (inL z).Perm ((opsZ z).flatMap waitU) := by
  revert z; decide +kernel

/-- The payments of an operation, to others and to itself. -/
def paysOf (o : Op) : List (Key × Fin 4 × Fin 9) :=
  (payOf o).toList.map Prod.snd ++ (ownOf o).toList

/-- No payment is made twice. -/
theorem pays_nodup (z : Fin 4) : ((opsZ z).flatMap paysOf).Nodup := by
  revert z; decide +kernel

/-- The writes that a credit allows: quarter, slot, count. -/
def writesOf : Op → List (Fin 4 × Fin 3 × Fin 3)
  | .cwait qt i => [(qt, cH i, Fin.ofNat 3 (i.val / 3))]
  | _ => []

theorem writes_nodup (z : Fin 4) : ((opsZ z).flatMap writesOf).Nodup := by
  revert z; decide +kernel

end Cert.Proof.K
-- ==== Proof.Protocol.lean ====
/- What the names of module Plan stand for: the cells, their schedule, the holdings, and what all devices know. -/
module

public import proofs.«01_k».proof.Proof.Plan
public import Idealize.ShloMosaic.Lib.Pipeline.Launch
public import Idealize.ShloMosaic.Lib.Pipeline.Kit
public import Idealize.ShloMosaic.Lib.Release
public import Idealize.ShloMosaic.Lib.MemrefSat
public import Idealize.ShloMosaic.Lib.Tactic

@[expose] public section

noncomputable section

namespace Cert.Proof.K

open Cert.KernelIdeal Cert.KernelIdeal.Gen Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

attribute [local instance] Cert.KernelIdeal.Gen.facts

variable {F : FTy → Type} [FloatOps F]

/-! ## The algebra: the pipeline's copy, the rounds' with duties numbered below 9, and the ring slots' -/

/-- A ring slot: the device, the quarter, the slot. -/
abbrev SK : Type := Dev nD × Fin 4 × Fin 3
abbrev UB : Type := URounds (GSem nD τ sig) (Fin 9)
abbrev UU : Type := UR sig nD τ × (UB × USlots SK)

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) := (Emb.inl : Emb UB (UB × USlots SK)).trans embR
def ES : Emb (USlots SK) (MT nD τ sig ℕ (Elt F) ℕ UU ℕ) := (Emb.inr : Emb (USlots SK) (UB × USlots SK)).trans embR

instance ER_landsIn : (ER : Emb UB 𝕄).LandsIn (upEmb : UEmb _ 𝕄) := by unfold ER; infer_instance
instance ES_landsIn : (ES : Emb (USlots SK) 𝕄).LandsIn (upEmb : UEmb _ 𝕄) := by unfold ES; infer_instance

/-! ## Cells -/

/-- The semaphore a key names. -/
def Key.loc : Key → SemLoc sig
  | .bar => .reg barSem
  | .exit => .reg exSem
  | .cred qt => .reg (crSem qt)
  | .zs up kk qt => .dma (zSem up false kk qt)
  | .zr up kk qt => .dma (zSem up true kk qt)
  | .hs qt r => .dma (hsSem qt r)
  | .ps qt h => .dma (psSem qt h)
  | .pr qt h => .dma (prSem qt h)

abbrev cell (c : Dev nD) (k : Key) : GSem nD τ sig := ((c.tc : Thread nD τ), k.loc)

/-- The key of a semaphore. -/
def keyOf (s : SemLoc sig) : Option Key := allKeys.find? fun k => decide (k.loc = s)

theorem keyOf_loc (k : Key) : keyOf k.loc = some k := by
  have h : ∀ k ∈ allKeys, keyOf k.loc = some k := by decide +kernel
  exact h k (mem_allKeys k)

theorem loc_inj : Function.Injective Key.loc := fun a b h => by
  have := (keyOf_loc a).symm.trans ((congrArg keyOf h).trans (keyOf_loc b))
  exact Option.some.inj this

/-- The units a transfer credits. -/
def NN : ℕ := (stgRow 0 0).view.dmaCredit

theorem NN_pos : 0 < NN := View.dmaCredit_pos _ (by decide)

/-- The units of a payment. -/
def amt : Key → ℕ
  | .bar => 1
  | .exit => 1
  | .cred _ => 1
  | _ => NN

theorem amt_pos (k : Key) : 0 < amt k := by
  cases k <;> first | exact Nat.one_pos | exact NN_pos

/-- What follows one another, all at once. -/
def sepL {α : Type} (Φ : α → sProp 𝕄) : List α → sProp 𝕄
  | [] => iprop(emp)
  | a :: l => iprop(Φ a ∗ sepL Φ l)

/-! ## Holdings -/

section

variable (X : Dev nD → Vec F S256x4096 .f32)

/-- A quarter of the rows of a device's block. -/
def qrow (c : Dev nD) (qt : Fin 4) : Vec F S64x4096 .f32 := fun i => X c ((xRect qt).emb i)

/-- The parts of a filled slot. -/
def q4 : Fin 4 → PosShare TreeShare
  | 0 => fullShare.left.left
  | 1 => fullShare.left.right
  | 2 => fullShare.right.left
  | 3 => fullShare.right.right
def q2 : Fin 2 → PosShare TreeShare
  | 0 => fullShare.left
  | 1 => fullShare.right

/-- A slot at unknown contents. -/
def rawS (c : Dev nD) (s qt : Fin 4) : sProp 𝕄 :=
  slot ((stgRow qt s).view.loc (c.tc : Thread nD τ)) (stgRow qt s).view.set
def rawP (c : Dev nD) (h : Fin 3) (qt : Fin 4) : sProp 𝕄 :=
  slot ((pbufRow qt h).view.loc (c.tc : Thread nD τ)) (pbufRow qt h).view.set

/-- The holdings of memory, at device `c`. -/
def own (c : Dev nD) : Dat → sProp 𝕄
  | .rawS s qt => rawS c s qt
  | .rawP h qt => rawP c h qt
  | .peerS up s qt => rawS (nbr (if up then .u else .d) c) s qt
  | .peerP h qt => rawP (nbr (qdir qt) c) h qt
  | .row s qt i => owns (c.tc : Thread nD τ) (stgRow qt s) (q4 i) (qrow X (stgOrig c s) qt)
  | .hop r h qt i => owns (c.tc : Thread nD τ) (pbufRow qt h) (q2 i) (qrow X (ringOrig c r h qt) qt)

instance rawS_storable (c : Dev nD) (s qt : Fin 4) : Storable (upEmb : UEmb _ 𝕄) (rawS (F := F) c s qt) := by
  unfold rawS slot; infer_instance
instance rawP_storable (c : Dev nD) (h : Fin 3) (qt : Fin 4) : Storable (upEmb : UEmb _ 𝕄) (rawP (F := F) c h qt) := by
  unfold rawP slot; infer_instance
instance own_storable (c : Dev nD) (d : Dat) : Storable (upEmb : UEmb _ 𝕄) (own X c d) := by
  cases d <;> (unfold own; infer_instance)
instance sepL_storable {α : Type} (Φ : α → sProp 𝕄) [h : ∀ a, Storable (upEmb : UEmb _ 𝕄) (Φ a)] (l : List α) :
    Storable (upEmb : UEmb _ 𝕄) (sepL Φ l) := by
  induction l with
  | nil => unfold sepL; infer_instance
  | cons a l ih => unfold sepL; infer_instance

/-- What a credit says: a slot of the ring has been given back, and its receipts have reached a round. -/
def fact (c : Dev nD) (qt : Fin 4) (i : ℕ) : sProp 𝕄 :=
  iprop(released ES ((c, qt, Fin.ofNat 3 i) : SK) (i / 3 + 1) ∗ reached ER (cell c (.pr qt (Fin.ofNat 3 i))) (i / 3 + 1))

/-- What the first `n` credits say. -/
def factsOf (c : Dev nD) (qt : Fin 4) (n : ℕ) : sProp 𝕄 := bigSep (Finset.range n) (fact c qt)

instance fact_storable (c : Dev nD) (qt : Fin 4) (i : ℕ) : Storable (upEmb : UEmb _ 𝕄) (fact (F := F) c qt i) := by
  unfold fact; infer_instance
instance factsOf_storable (c : Dev nD) (qt : Fin 4) (i : ℕ) : Storable (upEmb : UEmb _ 𝕄) (factsOf (F := F) c qt i) := by
  unfold factsOf; infer_instance
instance fact_persistent (c : Dev nD) (qt : Fin 4) (i : ℕ) : Persistent (fact (F := F) c qt i) := by
  unfold fact; infer_instance
instance factsOf_persistent (c : Dev nD) (qt : Fin 4) (i : ℕ) : Persistent (factsOf (F := F) c qt i) := by
  unfold factsOf; infer_instance

/-- What a payment hands over. -/
def pay (c : Dev nD) (k : Key) (r : ℕ) (d : Fin 9) : sProp 𝕄 :=
  match k with
  | .cred qt => factsOf (nbr (qdir qt) c) qt (d.val + 1)
  | k => sepL (own X c) (payD (zOf c) k r d)

instance pay_storable (c : Dev nD) (k : Key) (r : ℕ) (d : Fin 9) : Storable (upEmb : UEmb _ 𝕄) (pay X c k r d) := by
  unfold pay; cases k <;> infer_instance

/-- The schedule. -/
def Rd : Schedule (GSem nD τ sig) (Fin 9) 𝕄 where
  duties g r := match keyOf g.2 with
    | some k => if r < rounds (zOf g.1.1) k then (dutyL (zOf g.1.1) k).toFinset else ∅
    | none => ∅
  amount g _ _ := match keyOf g.2 with
    | some k => amt k
    | none => 1
  payload g r d := match keyOf g.2 with
    | some k => pay X g.1.1 k r d
    | none => iprop(emp)
  amount_pos g r d _ := by
    cases keyOf g.2 with
    | none => exact Nat.one_pos
    | some k => exact amt_pos k

instance Rd_storable (g : GSem nD τ sig) (r : ℕ) (d : Fin 9) : Storable (upEmb : UEmb _ 𝕄) ((Rd X).payload g r d) := by
  unfold Rd; dsimp only; cases keyOf g.2 <;> infer_instance

theorem duties_cell (c : Dev nD) (k : Key) (r : ℕ) :
    (Rd X).duties (cell c k) r = if r < rounds (zOf c) k then (dutyL (zOf c) k).toFinset else ∅ := by
  unfold Rd; dsimp only; rw [keyOf_loc]

theorem amount_cell (c : Dev nD) (k : Key) (r : ℕ) (d : Fin 9) : (Rd X).amount (cell c k) r d = amt k := by
  unfold Rd; dsimp only; rw [keyOf_loc]

theorem payload_cell (c : Dev nD) (k : Key) (r : ℕ) (d : Fin 9) : (Rd X).payload (cell c k) r d = pay X c k r d := by
  unfold Rd; dsimp only; rw [keyOf_loc]

theorem expect_cell (c : Dev nD) (k : Key) (r : ℕ) (h : r < rounds (zOf c) k) :
    (Rd X).expect (cell c k) r = (dutyL (zOf c) k).toFinset.card * amt k := by
  unfold Schedule.expect Schedule.amountOf
  rw [duties_cell, if_pos h, Finset.sum_congr rfl fun d _ => amount_cell X c k r d, Finset.sum_const, smul_eq_mul]

/-- What a name stands for, at device `c`. -/
def hold (c : Dev nD) : Res → sProp 𝕄
  | .dat d => own X c d
  | .pos k r => atPos ER (cell c k) r ∅ 0
  | .part k m => iprop(∃ S : Finset (Fin 9),
      ⌜S ⊆ (Rd X).duties (cell c k) 0 ∧ m + ((Rd X).duties (cell c k) 0 \ S).card ≤ (Rd X).expect (cell c k) 0⌝
        ∗ atPos ER (cell c k) 0 S m ∗ bigSep S fun d => (Rd X).payload (cell c k) 0 d)
  | .reach k r => reached ER (cell c k) r
  | .reachP h qt r => reached ER (cell (nbr (qdir qt) c) (.pr qt h)) r
  | .crd k => cred (tallyAt (cell c k) 0 NN)
  | .rd h qt n => readerAt ES ((c, qt, h) : SK) n
  | .facts qt n => factsOf c qt n

abbrev holds (c : Dev nD) : List Res → sProp 𝕄 := sepL (hold X c)

/-! ## What all know -/

/-- The levels: a payment's index is its level. -/
def L (g : GSem nD τ sig) : Finset ℕ := if g.1.2 = .tc then Finset.range 2000 else ∅
def lev (_ : GSem nD τ sig) (i : ℕ) : ℕ := i

/-- The cells' and the ring slots' invariants, the cells at round 0, the levels. -/
def ctx (K : Dev nD × Key → ℕ) (KS : SK → ℕ) : sProp 𝕄 :=
  iprop((bigSep Finset.univ fun p : Dev nD × Key => cellInv ER (Rd X) (K p) (cell p.1 p.2))
    ∗ (bigSep Finset.univ fun p : Dev nD × Key => reached ER (cell p.1 p.2) 0)
    ∗ (bigSep Finset.univ fun p : SK => slotInv ES (KS p) p (rawP p.1 p.2.2 p.2.1))
    ∗ levAts L lev)

instance ctx_persistent (K : Dev nD × Key → ℕ) (KS : SK → ℕ) : Persistent (ctx X K KS) := by
  unfold ctx; infer_instance

variable {X} {K : Dev nD × Key → ℕ} {KS : SK → ℕ}

theorem ctx_cell (c : Dev nD) (k : Key) : ctx X K KS ⊢ cellInv ER (Rd X) (K (c, k)) (cell c k) := by
  unfold ctx
  iintro ⟨H, -⟩
  iapply (show (bigSep Finset.univ (fun p : Dev nD × Key => cellInv ER (Rd X) (K p) (cell p.1 p.2)) : sProp 𝕄) ⊢ _ from bigSep_elim
    (Finset.mem_univ ((c, k) : Dev nD × Key))) $$ H

theorem ctx_reached (c : Dev nD) (k : Key) : ctx X K KS ⊢ reached ER (cell c k) 0 := by
  unfold ctx
  iintro ⟨-, H, -⟩
  iapply (show (bigSep Finset.univ (fun p : Dev nD × Key => reached ER (cell p.1 p.2) 0) : sProp 𝕄) ⊢ _ from bigSep_elim
    (Finset.mem_univ ((c, k) : Dev nD × Key))) $$ H

theorem ctx_slot (c : Dev nD) (h : Fin 3) (qt : Fin 4) :
    ctx X K KS ⊢ slotInv ES (KS (c, qt, h)) ((c, qt, h) : SK) (rawP c h qt) := by
  unfold ctx
  iintro ⟨-, -, H, -⟩
  iapply (show (bigSep Finset.univ (fun p : SK => slotInv ES (KS p) p (rawP p.1 p.2.2 p.2.1)) : sProp 𝕄) ⊢ _ from bigSep_elim
    (Finset.mem_univ ((c, qt, h) : SK))) $$ H

theorem ctx_lev : ctx X K KS ⊢ levAts L lev := by
  unfold ctx
  iintro ⟨-, -, -, H⟩
  iexact H

/-! ## What an operation uses up -/

/-- Where a payment goes from device `c`. -/
def dst (c : Dev nD) (k : Key) (d : Fin 9) : Dev nD :=
  match k with
  | .bar => nbr (nbrOf d).back c
  | .exit => nbr (nbrOf d).back c
  | .cred qt => nbr (qdir qt).back c
  | .zs _ _ _ => c
  | .zr up _ _ => nbr (if up then .u else .d) c
  | .hs _ _ => c
  | .ps _ _ => c
  | .pr qt _ => nbr (qdir qt) c

def duTok (c : Dev nD) (p : Key × Fin 4 × Fin 9) : sProp 𝕄 := dutyTok ER (cell (dst c p.1 p.2.2) p.1) p.2.1.val p.2.2
def crTok (c : Dev nD) (p : Key × ℕ) : sProp 𝕄 := cred (tallyAt (cell c p.1) p.2 (amt p.1))
def wrTok (c : Dev nD) (p : Fin 4 × Fin 3 × Fin 3) : sProp 𝕄 :=
  writeTok ES ((nbr (qdir p.1) c, p.1, p.2.1) : SK) (p.2.2.val + 1)

/-- The tokens of an operation: of its payments, of its waits, of the writes it allows. -/
def tok (c : Dev nD) (o : Op) : sProp 𝕄 :=
  iprop(sepL (duTok c) (paysOf o) ∗ sepL (crTok c) (waitU o) ∗ sepL (wrTok c) (writesOf o))

/-- What an operation owes until it has run. -/
def payT (c : Dev nD) (o : Op) : CellTallies nD τ sig ℕ :=
  match payOf o with
  | some p => tallyAt (cell (nbr p.1 c) p.2.1) (lvl p.2.1 p.2.2.1.val p.2.2.2) (amt p.2.1)
  | none => 0

/-- What a list of operations owes. -/
def owed (c : Dev nD) : List Op → CellTallies nD τ sig ℕ
  | [] => 0
  | o :: os => owed c os + payT c o

end

end Cert.Proof.K
-- ==== Proof.Sep.lean ====
/- Lists of assertions. -/
module

public import proofs.«01_k».proof.Proof.Protocol

@[expose] public section

noncomputable section

namespace Cert.Proof.K

open Cert.KernelIdeal
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig ℕ (Elt F) ℕ UU ℕ

variable {α β : Type}

theorem eqv {P Q : sProp 𝕄} (h : P ⊣⊢ Q) : P = Q := BI.equiv_iff.mp ⟨h.1, h.2⟩

theorem sepL_append (Φ : α → sProp 𝕄) (l₁ l₂ : List α) : sepL Φ (l₁ ++ l₂) = iprop(sepL Φ l₁ ∗ sepL Φ l₂) := by
  induction l₁ with
  | nil => exact (eqv Laws.emp_sep).symm
  | cons a l ih =>
    show iprop(Φ a ∗ sepL Φ (l ++ l₂)) = iprop((Φ a ∗ sepL Φ l) ∗ sepL Φ l₂)
    rw [ih]
    exact (eqv Laws.sep_assoc).symm

theorem sepL_map (Φ : β → sProp 𝕄) (f : α → β) (l : List α) : sepL Φ (l.map f) = sepL (fun a => Φ (f a)) l := by
  induction l with
  | nil => rfl
  | cons a l ih => show iprop(Φ (f a) ∗ sepL Φ (l.map f)) = _; rw [ih]; rfl

theorem sepL_flatMap (Φ : β → sProp 𝕄) (f : α → List β) (l : List α) :
    sepL Φ (l.flatMap f) = sepL (fun a => sepL Φ (f a)) l := by
  induction l with
  | nil => rfl
  | cons a l ih =>
    rw [List.flatMap_cons, sepL_append, ih]; rfl

theorem sepL_mono (Φ Ψ : α → sProp 𝕄) (l : List α) (h : ∀ a ∈ l, Φ a ⊢ Ψ a) : sepL Φ l ⊢ sepL Ψ l := by
  induction l with
  | nil => exact BI.Entails.refl _
  | cons a l ih => exact BIClass.sep_mono (h a (.head _)) (ih fun b hb => h b (.tail _ hb))

theorem sepL_perm (Φ : α → sProp 𝕄) {l₁ l₂ : List α} (h : l₁.Perm l₂) : sepL Φ l₁ = sepL Φ l₂ := by
  induction h with
  | nil => rfl
  | cons a _ ih => show iprop(Φ a ∗ sepL Φ _) = iprop(Φ a ∗ sepL Φ _); rw [ih]
  | swap a b l =>
    show iprop(Φ b ∗ Φ a ∗ sepL Φ l) = iprop(Φ a ∗ Φ b ∗ sepL Φ l)
    exact eqv sep_left_comm
  | trans _ _ ih₁ ih₂ => exact ih₁.trans ih₂

theorem sepL_singleton (Φ : α → sProp 𝕄) (a : α) : sepL Φ [a] = Φ a := eqv Laws.sep_emp

/-- A list without repeats is the set of its members. -/
theorem sepL_toFinset [DecidableEq α] (Φ : α → sProp 𝕄) (l : List α) (h : l.Nodup) : bigSep l.toFinset Φ = sepL Φ l := by
  induction l with
  | nil => rfl
  | cons a l ih =>
    rw [List.toFinset_cons, bigSep_insert (by rw [List.mem_toFinset]; exact (List.nodup_cons.mp h).1),
      ih (List.nodup_cons.mp h).2]
    rfl

/-- Taking a named holding out of a list. -/
theorem sepL_pick (Φ : Res → sProp 𝕄) (a : Res) (l l' : List Res) (h : pick a l = some l') :
    sepL Φ l = iprop(Φ a ∗ sepL Φ l') := by
  induction l generalizing l' with
  | nil => exact absurd h (fun h' => Option.some_ne_none _ h'.symm)
  | cons b l ih =>
    unfold pick at h
    split at h
    · rename_i hab
      rw [hab, ← Option.some.inj h]; rfl
    · cases hp : pick a l with
      | none => rw [hp] at h; exact absurd h (by simp)
      | some l₀ =>
        rw [hp] at h
        rw [← Option.some.inj h]
        show iprop(Φ b ∗ sepL Φ l) = iprop(Φ a ∗ Φ b ∗ sepL Φ l₀)
        rw [ih l₀ hp]
        exact eqv sep_left_comm

/-- Taking several. -/
theorem sepL_take (Φ : Res → sProp 𝕄) (l st st' : List Res) (h : take l st = some st') :
    sepL Φ st = iprop(sepL Φ l ∗ sepL Φ st') := by
  induction l generalizing st with
  | nil =>
    rw [← Option.some.inj h]
    exact (eqv Laws.emp_sep).symm
  | cons a l ih =>
    unfold take at h
    cases hp : pick a st with
    | none => rw [hp] at h; exact absurd h (by simp)
    | some st₁ =>
      rw [hp] at h
      rw [sepL_pick Φ a st st₁ hp, ih st₁ h]
      exact (eqv Laws.sep_assoc).symm

end Cert.Proof.K
-- ==== Proof.Geom.lean ====
/- Facts of the mesh and of the lists that the steps use. -/
module

public import proofs.«01_k».proof.Proof.Plan

@[expose] public section

namespace Cert.Proof.K

open Idealize.ShloMosaic Cert.KernelIdeal

/-- The direction of the planes' transfers. -/
abbrev zdir (up : Bool) : Nbr := if up then .u else .d

theorem back_back (n : Nbr) : n.back.back = n := by cases n <;> rfl

theorem nbr_back (n : Nbr) (c : Dev nD) : nbr n.back (nbr n c) = c := by
  have h : ∀ c : Fin 16, nbr .r (nbr .l c) = c ∧ nbr .l (nbr .r c) = c ∧ nbr .d (nbr .u c) = c ∧ nbr .u (nbr .d c) = c := by
    decide +kernel
  cases n
  · exact (h c).1
  · exact (h c).2.1
  · exact (h c).2.2.1
  · exact (h c).2.2.2

theorem zOf_nbr (n : Nbr) (c : Dev nD) : zOf (nbr n c) = nz n (zOf c) := by
  have h : ∀ c : Fin 16, zOf (nbr .l c) = nz .l (zOf c) ∧ zOf (nbr .r c) = nz .r (zOf c) ∧ zOf (nbr .u c) = nz .u (zOf c)
      ∧ zOf (nbr .d c) = nz .d (zOf c) := by decide +kernel
  cases n
  · exact (h c).1
  · exact (h c).2.1
  · exact (h c).2.2.1
  · exact (h c).2.2.2

theorem nbrOf_code (n : Nbr) : nbrOf n.code = n := by cases n <;> rfl

/-- A staging slot sent to the next plane keeps its origin. -/
theorem stgOrig_send (c : Dev nD) (up : Bool) (kk : Fin 3) (src dst : Fin 4) (h : (src, dst) ∈ sendTab up kk (zOf c)) :
    stgOrig (nbr (zdir up) c) dst = stgOrig c src := by
  have h' : ∀ (c : Fin 16) (up : Bool) (kk : Fin 3), ∀ p ∈ sendTab up kk (zOf c),
      stgOrig (nbr (zdir up) c) p.2 = stgOrig c p.1 := by decide +kernel
  exact h' c up kk _ h

/-- The device whose rows the ring's transfer of phase `r`, hop `h` carries. -/
def srcOrig (c : Dev nD) (r : Fin 4) (h : Fin 3) (qt : Fin 4) : Dev nD :=
  match h with
  | 0 => stgOrig c r
  | 1 => ringOrig c r 0 qt
  | 2 => ringOrig c r 1 qt

theorem ringOrig_send (c : Dev nD) (r : Fin 4) (h : Fin 3) (qt : Fin 4) :
    ringOrig (nbr (qdir qt) c) r h qt = srcOrig c r h qt := by
  have h' : ∀ (c : Fin 16) (r : Fin 4) (h : Fin 3) (qt : Fin 4), ringOrig (nbr (qdir qt) c) r h qt = srcOrig c r h qt := by
    decide +kernel
  exact h' c r h qt

/-- A gift of direction `m` is a slot of the neighbour in direction `m`. -/
theorem gift_dir (z : Fin 4) (m : Nbr) (d : Dat) (h : d ∈ gifts z m) :
    (∃ s qt, d = .peerP s qt ∧ qdir qt = m) ∨ (∃ up s qt, d = .peerS up s qt ∧ zdir up = m) := by
  have h' : ∀ z : Fin 4, ∀ m ∈ ([.l, .r, .u, .d] : List Nbr), ∀ d ∈ gifts z m,
      (∃ s qt, d = .peerP s qt ∧ qdir qt = m) ∨ (∃ up s qt, d = .peerS up s qt ∧ zdir up = m) := by decide +kernel
  exact h' z m (by cases m <;> decide) d h

/-- What the lists guarantee of an operation of plane `z`. -/
def okOp (z : Fin 4) : Op → Bool
  | .bsig _ n => n ∈ nbrs z && n.back ∈ nbrs (nz n z)
  | .bwait _ a => bBefore z a + bAmt a ≤ (nbrs z).length
  | .zsend up kk src dst _ => (src, dst) ∈ sendTab up kk z && srcSlot up kk z = src && dstSlot up kk (nz (zdir up) z) = dst
      && !(sendTab up kk z).isEmpty && !(recvTab up kk (nz (zdir up) z)).isEmpty
  | .zrecv up kk dst _ => dstSlot up kk z = dst && !(recvTab up kk z).isEmpty
  | .zsent up kk src _ _ => srcSlot up kk z = src && !(sendTab up kk z).isEmpty
  | .zgemm s _ => s != 0
  | _ => true

theorem ok_ops (z : Fin 4) : (opsZ z).all (okOp z) = true := by
  revert z; decide +kernel

theorem duties_nodup (z : Fin 4) (k : Key) : (dutyL z k).Nodup := by
  have h : ∀ z : Fin 4, ∀ k ∈ allKeys, (dutyL z k).Nodup := by decide +kernel
  exact h z k (mem_allKeys k)

theorem nbrs_codes_nodup (z : Fin 4) : ((nbrs z).map Nbr.code).Nodup := by revert z; decide

/-- What comes along the ring, or from another plane, is of another device. -/
theorem ringOrig_ne (c : Dev nD) (r : Fin 4) (h : Fin 3) (qt : Fin 4) : ringOrig c r h qt ≠ c := by
  have h' : ∀ (c : Fin 16) (r : Fin 4) (h : Fin 3) (qt : Fin 4), ringOrig c r h qt ≠ c := by decide +kernel
  exact h' c r h qt

theorem stgOrig_zero (c : Dev nD) : stgOrig c 0 = c := by
  have h' : ∀ c : Fin 16, stgOrig c 0 = c := by decide +kernel
  exact h' c

theorem stgOrig_ne (c : Dev nD) (s : Fin 4) (hs : s ≠ 0) : stgOrig c s ≠ c := by
  have h' : ∀ (c : Fin 16) (s : Fin 4), s ≠ 0 → stgOrig c s ≠ c := by decide +kernel
  exact h' c s hs

/-- The blocks of the result that an operation stores: of which device's rows, which quarter. -/
def blocks (c : Dev nD) : Op → List (Dev nD × Fin 4)
  | .gemm0 => [(c, 0), (c, 1), (c, 2), (c, 3)]
  | .rgemm r h qt => [(ringOrig c r h qt, qt)]
  | .zgemm s qt => [(stgOrig c s, qt)]
  | _ => []

/-- All of them are stored. -/
theorem blocks_all (c og : Dev nD) (qt : Fin 4) : (og, qt) ∈ (opsZ (zOf c)).flatMap (blocks c) := by
  have h : ∀ c og : Fin 16, ∀ qt : Fin 4, ((og, qt) : Dev nD × Fin 4) ∈ (opsZ (zOf c)).flatMap (blocks c) := by decide +kernel
  exact h c og qt

end Cert.Proof.K
-- ==== Proof.Steps.lean ====
/- What an operation that moves no result does: it takes its needs and its tokens, and leaves what it leaves. -/
module

public import proofs.«01_k».proof.Proof.Sep
public import proofs.«01_k».proof.Proof.Geom

@[expose] public section

noncomputable section

namespace Cert.Proof.K

open Cert.KernelIdeal Cert.KernelIdeal.Gen Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

attribute [local instance] Cert.KernelIdeal.Gen.facts

variable {F : FTy → Type} [FloatOps F]

local notation "𝕄" => MT nD τ sig ℕ (Elt F) ℕ UU ℕ

abbrev 𝒱₀ : Variants := Variants.none

/-- The weakest precondition of a piece of the body. -/
abbrev WP (c : Dev nD) (p : BProg F) (Q : PUnit → sProp 𝕄) : sProp 𝕄 :=
  wp frame (wpE (defs₀ (F := F)) 𝒱₀ (c.tc : Thread nD τ) none) Set.univ p Q

variable (X : Dev nD → Vec F S256x4096 .f32) {K : Dev nD × Key → ℕ} {KS : SK → ℕ}

/-! ## Slots -/

theorem slot_of_owns (c : Dev nD) (m : RowRef) (V : Vec F S64x4096 .f32) :
    (owns (c.tc : Thread nD τ) m fullShare V : sProp 𝕄) ⊢ slot (m.view.loc (c.tc : Thread nD τ)) m.view.set := by
  unfold owns slot
  iintro ⟨%f, -, H⟩
  iexists f
  iexact H

theorem rows_join (c : Dev nD) (s qt : Fin 4) :
    sepL (own X c) (rows s qt) = owns (c.tc : Thread nD τ) (stgRow qt s) fullShare (qrow X (stgOrig c s) qt) := by
  show iprop(own X c (.row s qt 0) ∗ own X c (.row s qt 1) ∗ own X c (.row s qt 2) ∗ own X c (.row s qt 3) ∗ emp) = _
  unfold own
  dsimp only [q4]
  rw [eqv (owns_halves (c.tc : Thread nD τ) (stgRow qt s) fullShare (qrow X (stgOrig c s) qt)),
    eqv (owns_halves (c.tc : Thread nD τ) (stgRow qt s) fullShare.left (qrow X (stgOrig c s) qt)),
    eqv (owns_halves (c.tc : Thread nD τ) (stgRow qt s) fullShare.right (qrow X (stgOrig c s) qt)),
    eqv Laws.sep_emp, eqv Laws.sep_assoc]

theorem hops_join (c : Dev nD) (r : Fin 4) (h : Fin 3) (qt : Fin 4) :
    sepL (own X c) (hops r h qt) = owns (c.tc : Thread nD τ) (pbufRow qt h) fullShare (qrow X (ringOrig c r h qt) qt) := by
  show iprop(own X c (.hop r h qt 0) ∗ own X c (.hop r h qt 1) ∗ emp) = _
  unfold own
  dsimp only [q2]
  rw [eqv (owns_halves (c.tc : Thread nD τ) (pbufRow qt h) fullShare (qrow X (ringOrig c r h qt) qt)), eqv Laws.sep_emp]

theorem rows_cast (c : Dev nD) (l : List Dat) : holds X c (l.map .dat) = sepL (own X c) l := sepL_map _ _ _

/-! ## Levels -/

/-- Everything owed is of a known level, above `ι`. -/
def Above (ι : ℕ) (O : CellTallies nD τ sig ℕ) : Prop := ∀ g i, 0 < O g i → i ∈ L g ∧ ι < i

theorem mayWait (c : Dev nD) (k : Key) (ι : ℕ) (O : CellTallies nD τ sig ℕ) (hι : ι < 2000) (h : Above ι O) :
    ctx X K KS ⊢ MayWait (c.tc : Thread nD τ) k.loc ι O :=
  ctx_lev.trans (Pipeline.mayWait_of_levAts (by show ι ∈ L _; unfold L; rw [if_pos rfl]; exact Finset.mem_range.mpr hι)
    (fun g i hg => ⟨(h g i hg).1, (h g i hg).2⟩))

/-! ## A transfer's wait -/

theorem credit_stg (qt s : Fin 4) : (stgRow qt s).view.dmaCredit = NN := rfl
theorem credit_pbuf (qt : Fin 4) (s : Fin 3) : (pbufRow qt s).view.dmaCredit = NN := rfl

/-- A wait for the one payment of a round. -/
theorem wait_one (c : Dev nD) (k : Key) (r : ℕ) (hr : r < rounds (zOf c) k) (hd : dutyL (zOf c) k = [0]) (hk : amt k = NN)
    {w : TpuEff nD τ sig (Elt F) Λ₀ .tc PUnit}
    (hw : ∀ K : PUnit → sProp 𝕄, wpE (defs₀ (F := F)) 𝒱₀ (c.tc : Thread nD τ) none Set.univ w K
      = waitSpec (c.tc : Thread nD τ) Set.univ k.loc NN K)
    (ι : ℕ) (hι : ι < 2000) {O : CellTallies nD τ sig ℕ} {W : Waits sig ℕ} (hO : Above ι O) (p : BProg F) (Q : PUnit → sProp 𝕄) :
    iprop(ctx X K KS ∗ cred (tallyAt (cell c k) ι NN) ∗ owes (c.tc : Thread nD τ) O W ∗ atPos ER (cell c k) r ∅ 0)
      ⊢ iprop((((∃ W', owes (c.tc : Thread nD τ) O W') ∗ atPos ER (cell c k) (r + 1) ∅ 0 ∗ reached ER (cell c k) (r + 1)
            ∗ pay X c k r 0) -∗ WP c p Q)
        -∗ WP c (.op w fun _ => p) Q) := by
  have hdu : (Rd X).duties (cell c k) r = {0} := by rw [duties_cell, if_pos hr, hd]; rfl
  have hrest : bigSep ((Rd X).duties (cell c k) r \ ∅) (fun d => (Rd X).payload (cell c k) r d) = pay X c k r 0 := by
    rw [hdu, Finset.sdiff_empty, bigSep_singleton, payload_cell]
  iintro ⟨#HC, Hc, HO, Hat⟩ Hk
  iapply (Rounds.wp_wait_rest_token 𝒱₀ ER (Rd X) (c.tc : Thread nD τ) none (κ := K (c, k)) hw (Set.mem_univ _) ι
    (O := O) (W := W) (R := r) (m := 0) (T := ∅)
    (by rw [Nat.zero_add, expect_cell X c k r hr, hd, hk]; exact (Nat.one_mul _).symm)) $$ [Hc HO Hat]
  · isplitr; · iapply (ctx_cell (X := X) (K := K) (KS := KS) c k); iexact HC
    isplitl [Hc]; · iexact Hc
    isplitl [HO]; · iexact HO
    isplitr; · iapply (mayWait X (K := K) (KS := KS) c k ι O hι hO); iexact HC
    iexact Hat
  iintro ⟨HO, Hat, Hr, Hpay⟩
  iapply Hk
  isplitl [HO]; · iexists _; iexact HO
  isplitl [Hat]; · iexact Hat
  isplitl [Hr]; · iexact Hr
  iapply (Entails.of_eq hrest)
  iexact Hpay

/-! ## A transfer to another device -/

theorem send_one (c c' : Dev nD) (src dm : RowRef) (sk rk : Key) (rs rr : ℕ) (hs : src.view.WordExact) (hd : dm.view.WordExact)
    {hsc : dm.view.ref.isScScratch = false} {sS : SemLoc sig} (hsS : sk.loc = sS)
    {ht : DmaTarget.Typed .vmem rk.loc (.remote (Dev.tc c' : Thread nD τ) dm sS hsc)}
    (q : PosShare TreeShare) (V : Vec F S64x4096 .f32)
    (hrs : rs < rounds (zOf c) sk) (hrr : rr < rounds (zOf c') rk) (hds : dutyL (zOf c) sk = [0]) (hdr : dutyL (zOf c') rk = [0])
    (has : amt sk = NN) (har : amt rk = NN) (hN : dm.view.amount rk.loc = NN) (ι : ℕ)
    {O : CellTallies nD τ sig ℕ} {W : Waits sig ℕ}
    (hp₁ : (owns (c.tc : Thread nD τ) src q V : sProp 𝕄) ⊢ pay X c sk rs 0)
    (hp₂ : (owns (c'.tc : Thread nD τ) dm fullShare V : sProp 𝕄) ⊢ pay X c' rk rr 0) (p : BProg F) (Q : PUnit → sProp 𝕄) :
    iprop(ctx X K KS ∗ owns (c.tc : Thread nD τ) src q V ∗ slot (dm.view.loc (c'.tc : Thread nD τ)) dm.view.set
        ∗ owes (c.tc : Thread nD τ) (O + tallyAt (cell c' rk) ι NN) W
        ∗ dutyTok ER (cell c sk) rs 0 ∗ reached ER (cell c sk) rs ∗ dutyTok ER (cell c' rk) rr 0 ∗ reached ER (cell c' rk) rr)
      ⊢ iprop(((cred (tallyAt (cell c sk) 0 NN) ∗ owes (c.tc : Thread nD τ) O W) -∗ WP c p Q)
        -∗ WP c (.op (.enqueueDma src (.remote (Dev.tc c' : Thread nD τ) dm sS hsc) rk.loc hs hd ht) fun _ => p) Q) := by
  subst hsS
  have hdu₁ : (0 : Fin 9) ∈ (Rd X).duties (cell c sk) rs := by rw [duties_cell, if_pos hrs, hds]; exact List.mem_toFinset.mpr (.head _)
  have hdu₂ : (0 : Fin 9) ∈ (Rd X).duties (cell c' rk) rr := by rw [duties_cell, if_pos hrr, hdr]; exact List.mem_toFinset.mpr (.head _)
  unfold owns slot
  iintro ⟨#HC, ⟨%fs, %hfs, Hs⟩, ⟨%fd, Hd⟩, HO, Ht₁, Hr₁, Ht₂, Hr₂⟩ Hk
  iapply (Rounds.wp_send_pointsTo 𝒱₀ ER (Rd X) (c.tc : Thread nD τ) none (κ₁ := K (c, sk)) (κ₂ := K (c', rk))
    (r₁ := rs) (r₂ := rr) (d₁ := 0) (d₂ := 0) (fd := fd) hdu₁ hdu₂ ι 0 NN hN
    ((amount_cell X c sk rs 0).trans has) ((amount_cell X c' rk rr 0).trans har) O rfl (W := W)
    (by
      rw [payload_cell]
      refine BIBase.Entails.trans ?_ hp₁
      unfold owns
      iintro H
      iexists fs
      isplitr; · ipureintro; exact hfs
      iexact H)
    (by
      rw [payload_cell]
      refine BIBase.Entails.trans ?_ hp₂
      unfold owns
      iintro H
      iexists _
      isplitr; rotate_left; · iexact H
      ipureintro
      rw [View.read_write_univ]
      exact hfs)) $$ [Hs Hd HO Ht₁ Hr₁ Ht₂ Hr₂]
  · isplitr; · iapply (ctx_cell (X := X) (K := K) (KS := KS) c sk); iexact HC
    isplitr; · iapply (ctx_cell (X := X) (K := K) (KS := KS) c' rk); iexact HC
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iexact Hk

/-! ## Counting waits -/

theorem bigSep_part {α : Type} [DecidableEq α] {s t : Finset α} (h : t ⊆ s) {Φ : α → sProp 𝕄} :
    bigSep s Φ = iprop(bigSep t Φ ∗ bigSep (s \ t) Φ) := bigSep_sdiff_split h

theorem cred_replicate (c : Dev nD) (k : Key) (l n : ℕ) (hk : amt k = 1) :
    (sepL (crTok c) (List.replicate n (k, l)) : sProp 𝕄) ⊢ cred (tallyAt (cell c k) l n) := by
  induction n with
  | zero =>
    rw [tallyAt_zero, cred_zero]
    exact BIBase.Entails.rfl
  | succ n ih =>
    rw [← tallyAt_add]
    show iprop(crTok c (k, l) ∗ sepL (crTok c) (List.replicate n (k, l))) ⊢ _
    iintro ⟨H, Hl⟩
    iapply (cred_add _ _).2
    isplitr [H]
    · iapply ih; iexact Hl
    · unfold crTok; dsimp only; rw [hk]; iexact H

/-- Nothing taken yet is a part of the round. -/
theorem part_of (c : Dev nD) (k : Key) (m : ℕ) : hold X c (partRes k m) ⊢ hold X c (.part k m) := by
  unfold partRes
  split
  · rename_i hm
    subst hm
    unfold hold
    iintro H
    iexists ∅
    isplitr
    · ipureintro
      refine ⟨Finset.empty_subset _, ?_⟩
      rw [Finset.sdiff_empty, Nat.zero_add]
      unfold Schedule.expect Schedule.amountOf
      rw [Finset.card_eq_sum_ones]
      exact Finset.sum_le_sum fun d hd => (Rd X).amount_pos _ _ _ hd
    isplitl [H]; · iexact H
    rw [bigSep_empty]; iempintro
  · exact BIBase.Entails.rfl

/-- A wait for some units of the first round. -/
theorem wait_part (c : Dev nD) (k : Key) (m n : ℕ) {w : TpuEff nD τ sig (Elt F) Λ₀ .tc PUnit}
    (hw : ∀ K : PUnit → sProp 𝕄, wpE (defs₀ (F := F)) 𝒱₀ (c.tc : Thread nD τ) none Set.univ w K
      = waitSpec (c.tc : Thread nD τ) Set.univ k.loc n K)
    (ι : ℕ) (hι : ι < 2000) {O : CellTallies nD τ sig ℕ} {W : Waits sig ℕ} (hO : Above ι O) (p : BProg F) (Q : PUnit → sProp 𝕄) :
    iprop(ctx X K KS ∗ cred (tallyAt (cell c k) ι n) ∗ owes (c.tc : Thread nD τ) O W ∗ hold X c (partRes k m))
      ⊢ iprop((((∃ W', owes (c.tc : Thread nD τ) O W') ∗ hold X c (.part k (m + n))) -∗ WP c p Q)
        -∗ WP c (.op w fun _ => p) Q) := by
  iintro ⟨#HC, Hc, HO, Hp⟩ Hk
  ihave Hp := (part_of X c k m) $$ Hp
  unfold hold
  icases Hp with ⟨%T, %hT, Hat, HT⟩
  iapply (Rounds.wp_wait 𝒱₀ ER (Rd X) (c.tc : Thread nD τ) none (κ := K (c, k)) hw (Set.mem_univ _)
    (cr := Finsupp.single ι n) (O := O) (W := W) {(k.loc, ι)} (R := 0) (m := m) (T := T) (by rw [Util.total_single])
    (image_single_subset k.loc ι n)) $$ [Hc HO Hat]
  · isplitr; · iapply (ctx_cell (X := X) (K := K) (KS := KS) c k); iexact HC
    isplitl [Hc]; · iexact Hc
    isplitl [HO]; · iexact HO
    isplitr; · iapply (mayWait X (K := K) (KS := KS) c k ι O hι hO); iexact HC
    iexact Hat
  iintro %S ⟨%hS, HO, Hat, Hpay⟩
  iapply Hk
  isplitl [HO]; · iexists _; iexact HO
  iexists S
  isplitr; · ipureintro; exact ⟨hS.2.1, hS.2.2⟩
  isplitl [Hat]; · iexact Hat
  rw [bigSep_part hS.1]
  isplitl [HT] <;> iassumption

/-- The wait for the rest of it. -/
theorem wait_last (c : Dev nD) (k : Key) (m n : ℕ) {w : TpuEff nD τ sig (Elt F) Λ₀ .tc PUnit}
    (hw : ∀ K : PUnit → sProp 𝕄, wpE (defs₀ (F := F)) 𝒱₀ (c.tc : Thread nD τ) none Set.univ w K
      = waitSpec (c.tc : Thread nD τ) Set.univ k.loc n K)
    (hr : 0 < rounds (zOf c) k) (hk : amt k = 1) (hmn : m + n = (dutyL (zOf c) k).length)
    (ι : ℕ) (hι : ι < 2000) {O : CellTallies nD τ sig ℕ} {W : Waits sig ℕ} (hO : Above ι O) (p : BProg F) (Q : PUnit → sProp 𝕄) :
    iprop(ctx X K KS ∗ cred (tallyAt (cell c k) ι n) ∗ owes (c.tc : Thread nD τ) O W ∗ hold X c (partRes k m))
      ⊢ iprop((((∃ W', owes (c.tc : Thread nD τ) O W') ∗ hold X c (.pos k 1) ∗ sepL (pay X c k 0) (dutyL (zOf c) k)) -∗ WP c p Q)
        -∗ WP c (.op w fun _ => p) Q) := by
  iintro ⟨#HC, Hc, HO, Hp⟩ Hk
  ihave Hp := (part_of X c k m) $$ Hp
  unfold hold
  icases Hp with ⟨%T, %hT, Hat, HT⟩
  iapply (Rounds.wp_wait_rest_token 𝒱₀ ER (Rd X) (c.tc : Thread nD τ) none (κ := K (c, k)) hw (Set.mem_univ _) ι
    (O := O) (W := W) (R := 0) (m := m) (T := T)
    (by rw [expect_cell X c k 0 hr, hk, Nat.mul_one, List.toFinset_card_of_nodup (duties_nodup _ _), hmn])) $$ [Hc HO Hat]
  · isplitr; · iapply (ctx_cell (X := X) (K := K) (KS := KS) c k); iexact HC
    isplitl [Hc]; · iexact Hc
    isplitl [HO]; · iexact HO
    isplitr; · iapply (mayWait X (K := K) (KS := KS) c k ι O hι hO); iexact HC
    iexact Hat
  iintro ⟨HO, Hat, -, Hpay⟩
  iapply Hk
  isplitl [HO]; · iexists _; iexact HO
  isplitl [Hat]; · iexact Hat
  rw [← sepL_toFinset _ _ (duties_nodup _ _),
    show (dutyL (zOf c) k).toFinset = (Rd X).duties (cell c k) 0 by rw [duties_cell, if_pos hr],
    show (pay X c k 0) = fun d => (Rd X).payload (cell c k) 0 d from funext fun d => (payload_cell X c k 0 d).symm,
    bigSep_part hT.1]
  isplitl [HT] <;> iassumption

/-! ## The operations -/

variable (x : Memref sig .tc .vmem S256x4096 .f32) (w ot : Memref sig .tc .vmem S4096x512 .f32)

/-- An operation that moves no result runs as its needs and leaves say. -/
def GStep (K : Dev nD × Key → ℕ) (KS : SK → ℕ) (c : Dev nD) (o : Op) : Prop :=
  ∀ (O : CellTallies nD τ sig ℕ) (W : Waits sig ℕ) (p : BProg F) (Q : PUnit → sProp 𝕄), Above (waitLv o) O →
    iprop(ctx X K KS ∗ holds X c (needs (zOf c) o) ∗ tok c o ∗ owes (c.tc : Thread nD τ) (O + payT c o) W)
      ⊢ iprop(((holds X c (leaves (zOf c) o) ∗ ∃ W', owes (c.tc : Thread nD τ) O W') -∗ WP c p Q)
        -∗ WP c (o.run x w ot c p) Q)

theorem step_zsend (c : Dev nD) (up : Bool) (kk : Fin 3) (src dst qt : Fin 4)
    (hok : okOp (zOf c) (.zsend up kk src dst qt) = true) : GStep X x w ot K KS c (.zsend up kk src dst qt) := by
  intro O W p Q _
  simp only [okOp, Bool.and_eq_true, decide_eq_true_eq, Bool.not_eq_true', beq_iff_eq] at hok
  obtain ⟨⟨⟨⟨hmem, hsrc⟩, hdst⟩, hs⟩, hr⟩ := hok
  have hp₁ : (owns (c.tc : Thread nD τ) (stgRow qt src) (q4 (zPart up)) (qrow X (stgOrig c src) qt) : sProp 𝕄)
      ⊢ pay X c (.zs up kk qt) 0 0 := by
    refine Entails.of_eq ?_
    show _ = sepL (own X c) [.row (srcSlot up kk (zOf c)) qt (zPart up)]
    rw [hsrc, sepL_singleton]
    rfl
  have hp₂ : (owns ((nbr (zdir up) c).tc : Thread nD τ) (stgRow qt dst) fullShare (qrow X (stgOrig c src) qt) : sProp 𝕄)
      ⊢ pay X (nbr (zdir up) c) (.zr up kk qt) 0 0 := by
    refine Entails.of_eq ?_
    show _ = sepL (own X _) (rows (dstSlot up kk (zOf (nbr (zdir up) c))) qt)
    rw [zOf_nbr, hdst, rows_join, stgOrig_send c up kk src dst hmem]
  have key : iprop(ctx X K KS ∗ own X c (.row src qt (zPart up)) ∗ own X c (.peerS up dst qt)
        ∗ owes (c.tc : Thread nD τ) (O + tallyAt (cell (nbr (zdir up) c) (.zr up kk qt)) (lvl (.zr up kk qt) 0 0) NN) W
        ∗ duTok c (.zs up kk qt, 0, 0) ∗ reached ER (cell c (.zs up kk qt)) 0
        ∗ duTok c (.zr up kk qt, 0, 0) ∗ reached ER (cell (nbr (zdir up) c) (.zr up kk qt)) 0)
      ⊢ iprop(((cred (tallyAt (cell c (.zs up kk qt)) 0 NN) ∗ owes (c.tc : Thread nD τ) O W) -∗ WP c p Q)
        -∗ WP c (Op.run x w ot c (.zsend up kk src dst qt) p) Q) :=
    send_one X (K := K) (KS := KS) c (nbr (zdir up) c) (stgRow qt src) (stgRow qt dst) (.zs up kk qt) (.zr up kk qt) 0 0
    (stg_exact _ _) (stg_exact _ _) (hsc := rfl) rfl (ht := ⟨⟨rfl, Or.inl rfl⟩, trivial⟩) (q4 (zPart up)) (qrow X (stgOrig c src) qt)
    (by show 0 < if _ then 0 else 1; rw [hs]; exact Nat.one_pos)
    (by show 0 < if _ then 0 else 1; rw [zOf_nbr, hr]; exact Nat.one_pos) rfl rfl rfl rfl (credit_stg qt dst)
    (lvl (.zr up kk qt) 0 0) (O := O) (W := W) hp₁ hp₂ p Q
  show iprop(ctx X K KS ∗ (own X c (.row src qt (zPart up)) ∗ own X c (.peerS up dst qt) ∗ emp)
    ∗ ((duTok c (.zr up kk qt, 0, 0) ∗ duTok c (.zs up kk qt, 0, 0) ∗ emp) ∗ emp ∗ emp)
    ∗ owes (c.tc : Thread nD τ) (O + tallyAt (cell (nbr (zdir up) c) (.zr up kk qt)) (lvl (.zr up kk qt) 0 0) NN) W)
    ⊢ iprop(((((cred (tallyAt (cell c (.zs up kk qt)) 0 NN) ∗ emp) ∗ ∃ W', owes (c.tc : Thread nD τ) O W') -∗ WP c p Q)) -∗ _)
  iintro ⟨#HC, ⟨Hrow, Hpeer, -⟩, ⟨⟨Ht₂, Ht₁, -⟩, -, -⟩, HO⟩ Hk
  iapply key $$ [Hrow Hpeer Ht₁ Ht₂ HO]
  · isplitr; · iexact HC
    isplitl [Hrow]; · iexact Hrow
    isplitl [Hpeer]; · iexact Hpeer
    isplitl [HO]; · iexact HO
    isplitl [Ht₁]; · iexact Ht₁
    isplitr; · iapply (ctx_reached (X := X) (K := K) (KS := KS) c (.zs up kk qt)); iexact HC
    isplitl [Ht₂]; · iexact Ht₂
    iapply (ctx_reached (X := X) (K := K) (KS := KS) (nbr (zdir up) c) (.zr up kk qt)); iexact HC
  iintro ⟨Hc, HO⟩
  iapply Hk
  isplitl [Hc]
  · isplitl [Hc]; · iexact Hc
    iempintro
  iexists W; iexact HO

theorem step_zrecv (c : Dev nD) (up : Bool) (kk : Fin 3) (dst qt : Fin 4)
    (hok : okOp (zOf c) (.zrecv up kk dst qt) = true) : GStep X x w ot K KS c (.zrecv up kk dst qt) := by
  intro O W p Q hO
  simp only [okOp, Bool.and_eq_true, decide_eq_true_eq, Bool.not_eq_true', beq_iff_eq] at hok
  obtain ⟨hdst, hr⟩ := hok
  have key : iprop(ctx X K KS ∗ crTok c (.zr up kk qt, lvl (.zr up kk qt) 0 0) ∗ owes (c.tc : Thread nD τ) O W ∗ hold X c (.pos (.zr up kk qt) 0))
      ⊢ iprop((((∃ W', owes (c.tc : Thread nD τ) O W') ∗ hold X c (.pos (.zr up kk qt) 1) ∗ reached ER (cell c (.zr up kk qt)) 1
            ∗ pay X c (.zr up kk qt) 0 0) -∗ WP c p Q)
        -∗ WP c (Op.run x w ot c (.zrecv up kk dst qt) p) Q) :=
    wait_one X (K := K) (KS := KS) c (.zr up kk qt) 0 (by show 0 < if _ then 0 else 1; rw [hr]; exact Nat.one_pos) rfl rfl
      (fun K => by rw [← credit_stg qt dst]; exact wpE_waitDma2_eq 𝒱₀ (c.tc : Thread nD τ) none Set.univ K)
      (lvl (.zr up kk qt) 0 0) (by show 30 * kk.val + 7 < 2000; have := kk.isLt; omega) hO p Q
  have hpay : pay X c (.zr up kk qt) 0 0 = holds X c ((rows dst qt).map .dat) := by
    rw [rows_cast]
    show sepL (own X c) (rows (dstSlot up kk (zOf c)) qt) = _
    rw [hdst]
  rw [hpay] at key
  show iprop(ctx X K KS ∗ (hold X c (.pos (.zr up kk qt) 0) ∗ emp)
    ∗ (emp ∗ (crTok c (.zr up kk qt, lvl (.zr up kk qt) 0 0) ∗ emp) ∗ emp)
    ∗ owes (c.tc : Thread nD τ) (O + 0) W)
    ⊢ iprop((((hold X c (.pos (.zr up kk qt) 1) ∗ holds X c ((rows dst qt).map .dat)) ∗ ∃ W', owes (c.tc : Thread nD τ) O W') -∗ WP c p Q) -∗ _)
  rw [add_zero]
  iintro ⟨#HC, ⟨Hpos, -⟩, ⟨-, ⟨Hc, -⟩, -⟩, HO⟩ Hk
  iapply key $$ [Hpos Hc HO]
  · isplitr; · iexact HC
    isplitl [Hc]; · iexact Hc
    isplitl [HO] <;> iassumption
  iintro ⟨HO, Hpos, -, Hpay⟩
  iapply Hk
  isplitr [HO]
  · isplitl [Hpos] <;> iassumption
  iexact HO

theorem step_zsent (c : Dev nD) (up : Bool) (kk : Fin 3) (src dst qt : Fin 4)
    (hok : okOp (zOf c) (.zsent up kk src dst qt) = true) : GStep X x w ot K KS c (.zsent up kk src dst qt) := by
  intro O W p Q hO
  simp only [okOp, Bool.and_eq_true, decide_eq_true_eq, Bool.not_eq_true', beq_iff_eq] at hok
  obtain ⟨hsrc, hr⟩ := hok
  have key : iprop(ctx X K KS ∗ hold X c (.crd (.zs up kk qt)) ∗ owes (c.tc : Thread nD τ) O W ∗ hold X c (.pos (.zs up kk qt) 0))
      ⊢ iprop((((∃ W', owes (c.tc : Thread nD τ) O W') ∗ hold X c (.pos (.zs up kk qt) 1) ∗ reached ER (cell c (.zs up kk qt)) 1
            ∗ pay X c (.zs up kk qt) 0 0) -∗ WP c p Q)
        -∗ WP c (Op.run x w ot c (.zsent up kk src dst qt) p) Q) :=
    wait_one X (K := K) (KS := KS) c (.zs up kk qt) 0 (by show 0 < if _ then 0 else 1; rw [hr]; exact Nat.one_pos) rfl rfl
      (fun K => by rw [← credit_stg qt src]; exact wpE_waitDma2_eq 𝒱₀ (c.tc : Thread nD τ) none Set.univ K) 0 (by decide) hO p Q
  have hpay : pay X c (.zs up kk qt) 0 0 = hold X c (.dat (.row src qt (zPart up))) := by
    show sepL (own X c) [.row (srcSlot up kk (zOf c)) qt (zPart up)] = _
    rw [hsrc, sepL_singleton]
    rfl
  rw [hpay] at key
  show iprop(ctx X K KS ∗ (hold X c (.pos (.zs up kk qt) 0) ∗ hold X c (.crd (.zs up kk qt)) ∗ emp)
    ∗ (emp ∗ emp ∗ emp) ∗ owes (c.tc : Thread nD τ) (O + 0) W)
    ⊢ iprop((((hold X c (.pos (.zs up kk qt) 1) ∗ hold X c (.dat (.row src qt (zPart up))) ∗ emp)
      ∗ ∃ W', owes (c.tc : Thread nD τ) O W') -∗ WP c p Q) -∗ _)
  rw [add_zero]
  iintro ⟨#HC, ⟨Hpos, Hc, -⟩, -, HO⟩ Hk
  iapply key $$ [Hpos Hc HO]
  · isplitr; · iexact HC
    isplitl [Hc]; · iexact Hc
    isplitl [HO] <;> iassumption
  iintro ⟨HO, Hpos, -, Hpay⟩
  iapply Hk
  isplitr [HO]
  · isplitl [Hpos]; · iexact Hpos
    isplitl [Hpay]; · iexact Hpay
    iempintro
  iexact HO

/-! ## The ring -/

theorem ofNat_val (r : Fin 4) : Fin.ofNat 4 r.val = r := Fin.ext (Nat.mod_eq_of_lt r.isLt)

/-- The part of its source that a hop reads. -/
def rShare (h : Fin 3) : PosShare TreeShare :=
  match h with
  | 0 => q4 0
  | 1 => q2 0
  | 2 => q2 0

theorem rDat_own (c : Dev nD) (r : Fin 4) (h : Fin 3) (qt : Fin 4) :
    own X c (rDat r h qt) = owns (c.tc : Thread nD τ) (rSrc r h qt) (rShare h) (qrow X (srcOrig c r h qt) qt) :=
  match h with
  | 0 => rfl
  | 1 => rfl
  | 2 => rfl

theorem rKey_loc (r : Fin 4) (h : Fin 3) (qt : Fin 4) : (rKey r h qt).loc = .dma (rSem r h qt) :=
  match h with
  | 0 => rfl
  | 1 => rfl
  | 2 => rfl

theorem rKey_duty (z : Fin 4) (r : Fin 4) (h : Fin 3) (qt : Fin 4) : dutyL z (rKey r h qt) = [0] :=
  match h with
  | 0 => rfl
  | 1 => rfl
  | 2 => rfl

theorem rKey_amt (r : Fin 4) (h : Fin 3) (qt : Fin 4) : amt (rKey r h qt) = NN :=
  match h with
  | 0 => rfl
  | 1 => rfl
  | 2 => rfl

theorem rKey_round (z : Fin 4) (r : Fin 4) (h : Fin 3) (qt : Fin 4) : (rRound r h).val < rounds z (rKey r h qt) :=
  match h with
  | 0 => Nat.one_pos
  | 1 => r.isLt
  | 2 => r.isLt

theorem rKey_pay (c : Dev nD) (r : Fin 4) (h : Fin 3) (qt : Fin 4) :
    pay X c (rKey r h qt) (rRound r h).val 0 = own X c (rDat r h qt) :=
  match h with
  | 0 => sepL_singleton _ _
  | 1 => by
    show sepL (own X c) [.hop (Fin.ofNat 4 r.val) 0 qt 0] = own X c (.hop r 0 qt 0)
    rw [ofNat_val, sepL_singleton]
  | 2 => by
    show sepL (own X c) [.hop (Fin.ofNat 4 r.val) 1 qt 0] = own X c (.hop r 1 qt 0)
    rw [ofNat_val, sepL_singleton]

theorem credit_rSrc (r : Fin 4) (h : Fin 3) (qt : Fin 4) : (rSrc r h qt).view.dmaCredit = NN :=
  match h with
  | 0 => rfl
  | 1 => rfl
  | 2 => rfl

theorem pr_pay (c : Dev nD) (r : Fin 4) (h : Fin 3) (qt : Fin 4) :
    pay X c (.pr qt h) r.val 0 = sepL (own X c) (hops r h qt) := by
  show sepL (own X c) (hops (Fin.ofNat 4 r.val) h qt) = _
  rw [ofNat_val]

theorem step_rsend (c : Dev nD) (r : Fin 4) (h : Fin 3) (qt : Fin 4) : GStep X x w ot K KS c (.rsend r h qt) := by
  intro O W p Q _
  have key : iprop(ctx X K KS ∗ owns (c.tc : Thread nD τ) (rSrc r h qt) (rShare h) (qrow X (srcOrig c r h qt) qt)
        ∗ hold X c (.dat (.peerP h qt))
        ∗ owes (c.tc : Thread nD τ) (O + tallyAt (cell (nbr (qdir qt) c) (.pr qt h)) (lvl (.pr qt h) r.val 0) NN) W
        ∗ dutyTok ER (cell c (rKey r h qt)) (rRound r h).val 0 ∗ hold X c (.reach (rKey r h qt) (rRound r h).val)
        ∗ duTok c (.pr qt h, r, 0) ∗ hold X c (.reachP h qt r.val))
      ⊢ iprop(((hold X c (.crd (rKey r h qt)) ∗ owes (c.tc : Thread nD τ) O W) -∗ WP c p Q)
        -∗ WP c (Op.run x w ot c (.rsend r h qt) p) Q) :=
    send_one X (K := K) (KS := KS) c (nbr (qdir qt) c) (rSrc r h qt) (pbufRow qt h) (rKey r h qt) (.pr qt h) (rRound r h).val r.val
      (rSrc_exact _ _ _) (pbuf_exact _ _) (hsc := rfl) (rKey_loc r h qt) (ht := ⟨⟨rfl, Or.inl rfl⟩, trivial⟩)
      (rShare h) (qrow X (srcOrig c r h qt) qt) (rKey_round _ _ _ _) r.isLt (rKey_duty _ _ _ _) rfl (rKey_amt _ _ _) rfl
      (credit_pbuf qt h) (lvl (.pr qt h) r.val 0)
      (by rw [rKey_pay, rDat_own])
      (by rw [pr_pay, hops_join, ringOrig_send]) p Q
  have hdu : (duTok c (rKey r h qt, rRound r h, 0) : sProp 𝕄) = dutyTok ER (cell c (rKey r h qt)) (rRound r h).val 0 :=
    match h with
    | 0 => rfl
    | 1 => rfl
    | 2 => rfl
  show iprop(ctx X K KS ∗ (own X c (rDat r h qt) ∗ hold X c (.dat (.peerP h qt)) ∗ hold X c (.reachP h qt r.val)
      ∗ hold X c (.reach (rKey r h qt) (rRound r h).val) ∗ emp)
    ∗ ((duTok c (.pr qt h, r, 0) ∗ duTok c (rKey r h qt, rRound r h, 0) ∗ emp) ∗ emp ∗ emp)
    ∗ owes (c.tc : Thread nD τ) (O + tallyAt (cell (nbr (qdir qt) c) (.pr qt h)) (lvl (.pr qt h) r.val 0) NN) W)
    ⊢ iprop((((hold X c (.crd (rKey r h qt)) ∗ emp) ∗ ∃ W', owes (c.tc : Thread nD τ) O W') -∗ WP c p Q) -∗ _)
  rw [hdu, rDat_own]
  iintro ⟨#HC, ⟨Hrow, Hpeer, Hr₂, Hr₁, -⟩, ⟨⟨Ht₂, Ht₁, -⟩, -, -⟩, HO⟩ Hk
  iapply key $$ [Hrow Hpeer Ht₁ Ht₂ HO Hr₁ Hr₂]
  · isplitr; · iexact HC
    isplitl [Hrow]; · iexact Hrow
    isplitl [Hpeer]; · iexact Hpeer
    isplitl [HO]; · iexact HO
    isplitl [Ht₁]; · iexact Ht₁
    isplitl [Hr₁]; · iexact Hr₁
    isplitl [Ht₂]; · iexact Ht₂
    iexact Hr₂
  iintro ⟨Hc, HO⟩
  iapply Hk
  isplitl [Hc]
  · isplitl [Hc]; · iexact Hc
    iempintro
  iexists W; iexact HO

theorem step_rrecv (c : Dev nD) (r : Fin 4) (h : Fin 3) (qt : Fin 4) : GStep X x w ot K KS c (.rrecv r h qt) := by
  intro O W p Q hO
  have key : iprop(ctx X K KS ∗ crTok c (.pr qt h, lvl (.pr qt h) r.val 0) ∗ owes (c.tc : Thread nD τ) O W ∗ hold X c (.pos (.pr qt h) r.val))
      ⊢ iprop((((∃ W', owes (c.tc : Thread nD τ) O W') ∗ hold X c (.pos (.pr qt h) (r.val + 1)) ∗ hold X c (.reach (.pr qt h) (r.val + 1))
            ∗ pay X c (.pr qt h) r.val 0) -∗ WP c p Q)
        -∗ WP c (Op.run x w ot c (.rrecv r h qt) p) Q) :=
    wait_one X (K := K) (KS := KS) c (.pr qt h) r.val r.isLt rfl rfl
      (fun K => by rw [← credit_pbuf qt h]; exact wpE_waitDma2_eq 𝒱₀ (c.tc : Thread nD τ) none Set.univ K)
      (lvl (.pr qt h) r.val 0)
      (by show 10 * (3 * r.val + h.val) + 10 < 2000; have := r.isLt; have := h.isLt; omega) hO p Q
  show iprop(ctx X K KS ∗ (hold X c (.pos (.pr qt h) r.val) ∗ emp)
    ∗ (emp ∗ (crTok c (.pr qt h, lvl (.pr qt h) r.val 0) ∗ emp) ∗ emp)
    ∗ owes (c.tc : Thread nD τ) (O + 0) W)
    ⊢ iprop((((hold X c (.pos (.pr qt h) (r.val + 1)) ∗ hold X c (.reach (.pr qt h) (r.val + 1)) ∗ holds X c ((hops r h qt).map .dat))
      ∗ ∃ W', owes (c.tc : Thread nD τ) O W') -∗ WP c p Q) -∗ _)
  rw [add_zero, rows_cast, ← pr_pay]
  iintro ⟨#HC, ⟨Hpos, -⟩, ⟨-, ⟨Hc, -⟩, -⟩, HO⟩ Hk
  iapply key $$ [Hpos Hc HO]
  · isplitr; · iexact HC
    isplitl [Hc]; · iexact Hc
    isplitl [HO] <;> iassumption
  iintro ⟨HO, Hpos, Hr, Hpay⟩
  iapply Hk
  isplitr [HO]
  · isplitl [Hpos]; · iexact Hpos
    isplitl [Hr] <;> iassumption
  iexact HO

theorem step_rsent (c : Dev nD) (r : Fin 4) (h : Fin 3) (qt : Fin 4) : GStep X x w ot K KS c (.rsent r h qt) := by
  intro O W p Q hO
  have key : iprop(ctx X K KS ∗ hold X c (.crd (rKey r h qt)) ∗ owes (c.tc : Thread nD τ) O W
        ∗ hold X c (.pos (rKey r h qt) (rRound r h).val))
      ⊢ iprop((((∃ W', owes (c.tc : Thread nD τ) O W') ∗ hold X c (.pos (rKey r h qt) ((rRound r h).val + 1))
            ∗ hold X c (.reach (rKey r h qt) ((rRound r h).val + 1))
            ∗ pay X c (rKey r h qt) (rRound r h).val 0) -∗ WP c p Q)
        -∗ WP c (Op.run x w ot c (.rsent r h qt) p) Q) :=
    wait_one X (K := K) (KS := KS) c (rKey r h qt) (rRound r h).val (rKey_round _ _ _ _) (rKey_duty _ _ _ _) (rKey_amt _ _ _)
      (fun K => by rw [rKey_loc, ← credit_rSrc r h qt]; exact wpE_waitDma2_eq 𝒱₀ (c.tc : Thread nD τ) none Set.univ K)
      0 (by decide) hO p Q
  show iprop(ctx X K KS ∗ (hold X c (.pos (rKey r h qt) (rRound r h).val) ∗ hold X c (.crd (rKey r h qt)) ∗ emp)
    ∗ (emp ∗ emp ∗ emp) ∗ owes (c.tc : Thread nD τ) (O + 0) W)
    ⊢ iprop((((hold X c (.pos (rKey r h qt) ((rRound r h).val + 1)) ∗ hold X c (.reach (rKey r h qt) ((rRound r h).val + 1))
      ∗ own X c (rDat r h qt) ∗ emp)
      ∗ ∃ W', owes (c.tc : Thread nD τ) O W') -∗ WP c p Q) -∗ _)
  rw [add_zero, ← rKey_pay]
  iintro ⟨#HC, ⟨Hpos, Hc, -⟩, -, HO⟩ Hk
  iapply key $$ [Hpos Hc HO]
  · isplitr; · iexact HC
    isplitl [Hc]; · iexact Hc
    isplitl [HO] <;> iassumption
  iintro ⟨HO, Hpos, Hr, Hpay⟩
  iapply Hk
  isplitr [HO]
  · isplitl [Hpos]; · iexact Hpos
    isplitl [Hr]; · iexact Hr
    isplitl [Hpay]; · iexact Hpay
    iempintro
  iexact HO

end Cert.Proof.K
-- ==== Proof.Signals.lean ====
/- The operations on the counting semaphores: the barrier, the exit, the credits. -/
module

public import proofs.«01_k».proof.Proof.Steps

@[expose] public section

noncomputable section

namespace Cert.Proof.K

open Cert.KernelIdeal Cert.KernelIdeal.Gen Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

attribute [local instance] Cert.KernelIdeal.Gen.facts

variable {F : FTy → Type} [FloatOps F]

local notation "𝕄" => MT nD τ sig ℕ (Elt F) ℕ UU ℕ

variable (X : Dev nD → Vec F S256x4096 .f32) {K : Dev nD × Key → ℕ} {KS : SK → ℕ}
variable (x : Memref sig .tc .vmem S256x4096 .f32) (w ot : Memref sig .tc .vmem S4096x512 .f32)

/-- A signal that makes a payment of the first round. -/
theorem sig_one (c c' : Dev nD) (k : Key) (d : Fin 9) {sm : Sem sig} (hsm : k.loc = .reg sm) (hd : d ∈ dutyL (zOf c') k)
    (hr : 0 < rounds (zOf c') k) (hk : amt k = 1) (ι : ℕ) {O : CellTallies nD τ sig ℕ} {W : Waits sig ℕ} (p : BProg F)
    (Q : PUnit → sProp 𝕄) :
    iprop(ctx X K KS ∗ owes (c.tc : Thread nD τ) (O + tallyAt (cell c' k) ι (amt k)) W ∗ dutyTok ER (cell c' k) 0 d ∗ pay X c' k 0 d)
      ⊢ iprop((owes (c.tc : Thread nD τ) O W -∗ WP c p Q) -∗ WP c (.op (.semSignal (c', .tc) sm 1) fun _ => p) Q) := by
  have hdu : d ∈ (Rd X).duties (cell c' k) 0 := by rw [duties_cell, if_pos hr]; exact List.mem_toFinset.mpr hd
  have ha : (Rd X).amount (cell c' k) 0 d = 1 := (amount_cell X c' k 0 d).trans hk
  have hp := payload_cell X c' k 0 d
  have hcell : ctx X K KS ⊢ cellInv ER (Rd X) (K (c', k)) (cell c' k) := ctx_cell c' k
  have hrch : ctx X K KS ⊢ reached ER (cell c' k) 0 := ctx_reached c' k
  rw [hk, ← hp]
  unfold cell at *
  rw [hsm] at *
  iintro ⟨#HC, HO, Ht, Hp⟩ Hk
  iapply (Rounds.wp_signal 𝒱₀ ER (Rd X) (c.tc : Thread nD τ) none (dst := (c'.tc : Thread nD τ)) (κ := K (c', k)) (d := d)
    hdu ha ι O rfl) $$ [HO Ht Hp]
  · isplitr; · iapply hcell; iexact HC
    isplitl [HO]; · iexact HO
    isplitl [Ht]; · iexact Ht
    isplitl [Hp]; · iexact Hp
    iapply hrch; iexact HC
  iexact Hk

theorem bKey_loc (ex : Bool) : (bKey ex).loc = .reg (if ex then exSem else barSem) := by cases ex <;> rfl
theorem bKey_amt (ex : Bool) : amt (bKey ex) = 1 := by cases ex <;> rfl
theorem bKey_duty (z : Fin 4) (ex : Bool) : dutyL z (bKey ex) = (nbrs z).map Nbr.code := by cases ex <;> rfl
theorem bKey_rounds (z : Fin 4) (ex : Bool) : rounds z (bKey ex) = 1 := by cases ex <;> rfl
theorem bKey_dst (c : Dev nD) (ex : Bool) (d : Fin 9) : dst c (bKey ex) d = nbr (nbrOf d).back c := by cases ex <;> rfl

/-- The slots given to a neighbour are those that the neighbour counts as given. -/
theorem gift_mirror (c : Dev nD) (n : Nbr) :
    sepL (hold X c) ((gifts (nz n (zOf c)) n.back).map fun d => .dat d.mirror)
      ⊢ sepL (own X (nbr n c)) (gifts (nz n (zOf c)) n.back) := by
  rw [sepL_map]
  refine sepL_mono _ _ _ fun d hd => Entails.of_eq ?_
  rcases gift_dir _ _ _ hd with ⟨h, qt, rfl, hq⟩ | ⟨up, s, qt, rfl, hq⟩
  · show rawP c h qt = rawP (nbr (qdir qt) (nbr n c)) h qt
    rw [hq, nbr_back]
  · show rawS c s qt = rawS (nbr (zdir up) (nbr n c)) s qt
    rw [hq, nbr_back]

theorem pay_bKey (c : Dev nD) (ex : Bool) (n : Nbr) :
    pay X c (bKey ex) 0 n.code = if ex then iprop(emp) else sepL (own X c) (gifts (zOf c) n) := by
  cases ex
  · show sepL (own X c) (gifts (zOf c) (nbrOf n.code)) = _
    rw [nbrOf_code]; rfl
  · rfl

theorem step_bsig (c : Dev nD) (ex : Bool) (n : Nbr) (hok : okOp (zOf c) (.bsig ex n) = true) : GStep X x w ot K KS c (.bsig ex n) := by
  intro O W p Q _
  simp only [okOp, Bool.and_eq_true, decide_eq_true_eq] at hok
  have key := sig_one X (K := K) (KS := KS) c (nbr n c) (bKey ex) n.back.code (bKey_loc ex)
    (by rw [bKey_duty, zOf_nbr]; exact List.mem_map_of_mem hok.2) (by rw [bKey_rounds]; exact Nat.one_pos) (bKey_amt ex)
    (lvl (bKey ex) 0 n.back.code) (O := O) (W := W) p Q
  have hdu : (duTok c (bKey ex, 0, n.back.code) : sProp 𝕄) = dutyTok ER (cell (nbr n c) (bKey ex)) 0 n.back.code := by
    unfold duTok
    dsimp only
    rw [bKey_dst, nbrOf_code, back_back]
    rfl
  have hpay : holds X c (needs (zOf c) (.bsig ex n)) ⊢ pay X (nbr n c) (bKey ex) 0 n.back.code := by
    rw [pay_bKey, zOf_nbr]
    cases ex
    · exact gift_mirror X c n
    · exact BIBase.Entails.rfl
  show iprop(ctx X K KS ∗ holds X c (needs (zOf c) (.bsig ex n))
    ∗ ((duTok c (bKey ex, 0, n.back.code) ∗ emp) ∗ emp ∗ emp)
    ∗ owes (c.tc : Thread nD τ) (O + tallyAt (cell (nbr n c) (bKey ex)) (lvl (bKey ex) 0 n.back.code) (amt (bKey ex))) W)
    ⊢ iprop(((emp ∗ ∃ W', owes (c.tc : Thread nD τ) O W') -∗ WP c p Q)
      -∗ WP c (.op (.semSignal (nbr n c, .tc) (if ex then exSem else barSem) 1) fun _ => p) Q)
  rw [hdu]
  iintro ⟨#HC, Hn, ⟨⟨Ht, -⟩, -, -⟩, HO⟩ Hk
  iapply key $$ [Hn Ht HO]
  · isplitr; · iexact HC
    isplitl [HO]; · iexact HO
    isplitl [Ht]; · iexact Ht
    iapply hpay; iexact Hn
  iintro HO
  iapply Hk
  isplitr; · iempintro
  iexists W; iexact HO

theorem waitLv_bwait (ex : Bool) (a : Fin 3) : waitLv (.bwait ex a) = lvl (bKey ex) 0 0 := by
  revert ex a; decide

theorem step_bwait (c : Dev nD) (ex : Bool) (a : Fin 3) (hok : okOp (zOf c) (.bwait ex a) = true) : GStep X x w ot K KS c (.bwait ex a) := by
  intro O W p Q hO
  rw [waitLv_bwait] at hO
  have hlv : lvl (bKey ex) 0 0 < 2000 := by cases ex <;> decide
  have hw : ∀ K : PUnit → sProp 𝕄, wpE (defs₀ (F := F)) 𝒱₀ (c.tc : Thread nD τ) none Set.univ
        (.semWait (if ex then exSem else barSem) (if a = 0 then 2 else 1)) K
      = waitSpec (c.tc : Thread nD τ) Set.univ (bKey ex).loc (bAmt a) K := fun K => by
    rw [bKey_loc]
    have h : ((if a = 0 then 2 else 1 : ℤ)) = ((bAmt a : ℕ) : ℤ) := by
      clear hok hO
      revert a; decide
    rw [h]
    exact wpE_semWait_eq 𝒱₀ (c.tc : Thread nD τ) none Set.univ K
  have hcr : (sepL (crTok c) (waitU (.bwait ex a)) : sProp 𝕄) ⊢ cred (tallyAt (cell c (bKey ex)) (lvl (bKey ex) 0 0) (bAmt a)) :=
    cred_replicate c (bKey ex) _ _ (bKey_amt ex)
  by_cases hlast : bBefore (zOf c) a + bAmt a = (nbrs (zOf c)).length
  · have key := wait_last X (K := K) (KS := KS) c (bKey ex) (bBefore (zOf c) a) (bAmt a) hw (by rw [bKey_rounds]; exact Nat.one_pos)
      (bKey_amt ex) (by rw [bKey_duty, List.length_map, hlast]) (lvl (bKey ex) 0 0) hlv (O := O) (W := W) hO p Q
    have hl : leaves (zOf c) (.bwait ex a) = .pos (bKey ex) 1 :: (bGives (zOf c) ex).map .dat := if_pos hlast
    have hpay : sepL (pay X c (bKey ex) 0) (dutyL (zOf c) (bKey ex)) = holds X c ((bGives (zOf c) ex).map .dat) := by
      rw [bKey_duty, sepL_map, rows_cast, show (fun n : Nbr => pay X c (bKey ex) 0 n.code) = _ from funext (pay_bKey X c ex)]
      cases ex
      · exact (sepL_flatMap _ _ _).symm
      · show sepL (fun _ : Nbr => (iprop(emp) : sProp 𝕄)) _ = iprop(emp)
        have : ∀ l : List Nbr, sepL (fun _ : Nbr => (iprop(emp) : sProp 𝕄)) l = iprop(emp) := fun l => by
          induction l with
          | nil => rfl
          | cons b l ih => show iprop(emp ∗ sepL _ l) = _; rw [ih]; exact eqv Laws.emp_sep
        exact this _
    rw [hpay] at key
    unfold GStep at *
    rw [hl]
    show iprop(ctx X K KS ∗ (hold X c (partRes (bKey ex) (bBefore (zOf c) a)) ∗ emp)
      ∗ (emp ∗ sepL (crTok c) (waitU (.bwait ex a)) ∗ emp) ∗ owes (c.tc : Thread nD τ) (O + 0) W)
      ⊢ iprop((((hold X c (.pos (bKey ex) 1) ∗ holds X c ((bGives (zOf c) ex).map .dat)) ∗ ∃ W', owes (c.tc : Thread nD τ) O W') -∗ WP c p Q)
        -∗ WP c (.op (.semWait (if ex then exSem else barSem) (if a = 0 then 2 else 1)) fun _ => p) Q)
    rw [add_zero]
    iintro ⟨#HC, ⟨Hp, -⟩, ⟨-, Hc, -⟩, HO⟩ Hk
    iapply key $$ [Hp Hc HO]
    · isplitr; · iexact HC
      isplitl [Hc]; · iapply hcr; iexact Hc
      isplitl [HO] <;> iassumption
    iintro ⟨HO, Hpos, Hpay⟩
    iapply Hk
    isplitr [HO]
    · isplitl [Hpos] <;> iassumption
    iexact HO
  · have key := wait_part X (K := K) (KS := KS) c (bKey ex) (bBefore (zOf c) a) (bAmt a) hw
      (lvl (bKey ex) 0 0) hlv (O := O) (W := W) hO p Q
    have hl : leaves (zOf c) (.bwait ex a) = [.part (bKey ex) (bBefore (zOf c) a + bAmt a)] := if_neg hlast
    rw [hl]
    show iprop(ctx X K KS ∗ (hold X c (partRes (bKey ex) (bBefore (zOf c) a)) ∗ emp)
      ∗ (emp ∗ sepL (crTok c) (waitU (.bwait ex a)) ∗ emp) ∗ owes (c.tc : Thread nD τ) (O + 0) W)
      ⊢ iprop((((hold X c (.part (bKey ex) (bBefore (zOf c) a + bAmt a)) ∗ emp) ∗ ∃ W', owes (c.tc : Thread nD τ) O W') -∗ WP c p Q)
        -∗ WP c (.op (.semWait (if ex then exSem else barSem) (if a = 0 then 2 else 1)) fun _ => p) Q)
    rw [add_zero]
    iintro ⟨#HC, ⟨Hp, -⟩, ⟨-, Hc, -⟩, HO⟩ Hk
    iapply key $$ [Hp Hc HO]
    · isplitr; · iexact HC
      isplitl [Hc]; · iapply hcr; iexact Hc
      isplitl [HO] <;> iassumption
    iintro ⟨HO, Hp⟩
    iapply Hk
    isplitr [HO]
    · isplitl [Hp]; · iexact Hp
      iempintro
    iexact HO

/-! ## Credits -/

theorem pbuf_nonempty (qt : Fin 4) (h : Fin 3) : (pbufRow qt h).view.set.Nonempty := by
  rw [← Finset.card_pos, View.card_set]
  decide

theorem step_csig (c : Dev nD) (qt : Fin 4) (i : Fin 9) : GStep X x w ot K KS c (.csig qt i) := by
  intro O W p Q _
  have key := sig_one X (K := K) (KS := KS) c (nbr (qdir qt).back c) (.cred qt) i (sm := crSem qt) rfl
    ((show ∀ i : Fin 9, i ∈ ([0, 1, 2, 3, 4, 5, 6, 7, 8] : List (Fin 9)) by decide) i) Nat.one_pos rfl
    (lvl (.cred qt) 0 i) (O := O) (W := W) p Q
  have hpay : pay X (nbr (qdir qt).back c) (.cred qt) 0 i = factsOf c qt (i.val + 1) := by
    show factsOf (nbr (qdir qt) (nbr (qdir qt).back c)) qt (i.val + 1) = _
    have := nbr_back (qdir qt).back c
    rw [back_back] at this
    rw [this]
  have hfact : (iprop((released (ES (F := F)) ((c, qt, cH i) : SK) (i.val / 3 + 1) ∗ reached ER (cell c (.pr qt (cH i))) (i.val / 3 + 1))
      ∗ factsOf c qt i.val) : sProp 𝕄) = factsOf c qt (i.val + 1) := by
    unfold factsOf
    rw [Finset.range_add_one]
    exact (bigSep_insert (Φ := fact (F := F) c qt) Finset.notMem_range_self).symm
  have hslot : iprop(own X c (.hop (cR i) (cH i) qt 0) ∗ own X c (.hop (cR i) (cH i) qt 1) ∗ emp) ⊢ rawP c (cH i) qt :=
    (Entails.of_eq (hops_join X c (cR i) (cH i) qt)).trans (slot_of_owns c (pbufRow qt (cH i)) _)
  have hrel : iprop(slotInv ES (KS (c, qt, cH i)) ((c, qt, cH i) : SK) (rawP c (cH i) qt) ∗ readerAt ES ((c, qt, cH i) : SK) (i.val / 3)
        ∗ rawP c (cH i) qt)
      ⊢ (|={Set.univ}=> (readerAt ES ((c, qt, cH i) : SK) (i.val / 3 + 1) ∗ released ES ((c, qt, cH i) : SK) (i.val / 3 + 1)) : sProp 𝕄) :=
    slot_release ES (Set.mem_univ _) (slot_slot_false (pbuf_nonempty qt (cH i))) (i.val / 3)
  have hslotI : ctx X K KS ⊢ slotInv ES (KS (c, qt, cH i)) ((c, qt, cH i) : SK) (rawP c (cH i) qt) := ctx_slot c (cH i) qt
  rw [hpay] at key
  show iprop(ctx X K KS ∗ (own X c (.hop (cR i) (cH i) qt 0) ∗ own X c (.hop (cR i) (cH i) qt 1) ∗ readerAt ES ((c, qt, cH i) : SK) (i.val / 3)
      ∗ reached ER (cell c (.pr qt (cH i))) (i.val / 3 + 1) ∗ factsOf c qt i.val ∗ emp)
    ∗ ((dutyTok ER (cell (nbr (qdir qt).back c) (.cred qt)) 0 i ∗ emp) ∗ emp ∗ emp)
    ∗ owes (c.tc : Thread nD τ) (O + tallyAt (cell (nbr (qdir qt).back c) (.cred qt)) (lvl (.cred qt) 0 i) (amt (.cred qt))) W)
    ⊢ iprop((((readerAt ES ((c, qt, cH i) : SK) (i.val / 3 + 1) ∗ factsOf c qt (i.val + 1) ∗ emp) ∗ ∃ W', owes (c.tc : Thread nD τ) O W') -∗ WP c p Q)
      -∗ WP c (.op (.semSignal (nbr (qdir qt).back c, .tc) (crSem qt) 1) fun _ => p) Q)
  iintro ⟨#HC, ⟨H0, H1, Hrd, Hreach, Hf, -⟩, ⟨⟨Ht, -⟩, -, -⟩, HO⟩ Hk
  ihave Hs := hslot $$ [H0 H1]
  · isplitl [H0]; · iexact H0
    isplitl [H1]; · iexact H1
    iempintro
  imod hrel $$ [Hrd Hs] with ⟨Hrd, Hrel⟩
  · isplitr; · iapply hslotI; iexact HC
    isplitl [Hrd] <;> iassumption
  ihave #Hf' := (Entails.of_eq hfact) $$ [Hrel Hreach Hf]
  · isplitr [Hf]
    · isplitl [Hrel] <;> iassumption
    iexact Hf
  iapply key $$ [Ht HO]
  · isplitr; · iexact HC
    isplitl [HO]; · iexact HO
    isplitl [Ht]; · iexact Ht
    iexact Hf'
  iintro HO
  iapply Hk
  isplitr [HO]
  · isplitl [Hrd]; · iexact Hrd
    isplitr; · iexact Hf'
    iempintro
  iexists W; iexact HO

/-- Of `i + 1` of the credits one is the `i`-th or a later one. -/
theorem exists_credit (S : Finset (Fin 9)) (i : ℕ) (h : i + 1 ≤ S.card) : ∃ d ∈ S, i ≤ d.val := by
  by_contra hn
  push Not at hn
  have : S.card ≤ (Finset.range i).card :=
    Finset.card_le_card_of_injOn (fun d => d.val) (fun d hd => Finset.mem_coe.mpr (Finset.mem_range.mpr (hn d hd)))
      (fun a _ b _ hab => Fin.ext hab)
  rw [Finset.card_range] at this
  omega

theorem facts_fact (c : Dev nD) (qt : Fin 4) (n i : ℕ) (h : i < n) : (factsOf c qt n : sProp 𝕄) ⊢ fact c qt i := by
  unfold factsOf
  exact bigSep_elim (Finset.mem_range.mpr h)

/-- The credits taken say that the slot has been given back. -/
theorem credit_fact (c : Dev nD) (qt : Fin 4) (i : Fin 9) (S : Finset (Fin 9)) (h : i.val + 1 ≤ S.card) :
    (bigSep S fun d => (Rd X).payload (cell c (.cred qt)) 0 d) ⊢ fact (nbr (qdir qt) c) qt i.val := by
  obtain ⟨d, hd, hid⟩ := exists_credit S i.val h
  refine (show (bigSep S (fun d => (Rd X).payload (cell c (.cred qt)) 0 d) : sProp 𝕄) ⊢ _ from bigSep_elim hd).trans ?_
  rw [payload_cell]
  exact facts_fact (nbr (qdir qt) c) qt (d.val + 1) i.val (by omega)

theorem waitLv_cwait (qt : Fin 4) (i : Fin 9) : waitLv (.cwait qt i) = lvl (.cred qt) 0 i := by
  revert qt i; decide

theorem step_cwait (c : Dev nD) (qt : Fin 4) (i : Fin 9) : GStep X x w ot K KS c (.cwait qt i) := by
  intro O W p Q hO
  rw [waitLv_cwait] at hO
  have hlv : lvl (.cred qt) 0 i < 2000 := by
    show 10 * i.val + 25 < 2000
    have := i.isLt
    omega
  have hw : ∀ K : PUnit → sProp 𝕄, wpE (defs₀ (F := F)) 𝒱₀ (c.tc : Thread nD τ) none Set.univ (.semWait (crSem qt) 1) K
      = waitSpec (c.tc : Thread nD τ) Set.univ (Key.cred qt).loc 1 K := wpE_semWait_eq 𝒱₀ (c.tc : Thread nD τ) none Set.univ
  have hlen : (dutyL (zOf c) (.cred qt)).toFinset.card = 9 := by
    rw [List.toFinset_card_of_nodup (duties_nodup _ _)]; rfl
  have hdu : (Rd X).duties (cell c (.cred qt)) 0 = (dutyL (zOf c) (.cred qt)).toFinset := by
    rw [duties_cell]; exact if_pos Nat.one_pos
  have hslotI : ctx X K KS ⊢ slotInv ES (KS (nbr (qdir qt) c, qt, cH i)) ((nbr (qdir qt) c, qt, cH i) : SK)
    (rawP (nbr (qdir qt) c) (cH i) qt) := ctx_slot _ (cH i) qt
  have htake : iprop(slotInv ES (KS (nbr (qdir qt) c, qt, cH i)) ((nbr (qdir qt) c, qt, cH i) : SK) (rawP (nbr (qdir qt) c) (cH i) qt)
        ∗ released ES ((nbr (qdir qt) c, qt, cH i) : SK) (i.val / 3 + 1) ∗ writeTok ES ((nbr (qdir qt) c, qt, cH i) : SK) (i.val / 3 + 1))
      ⊢ (|={Set.univ}=> rawP (nbr (qdir qt) c) (cH i) qt : sProp 𝕄) := slot_take ES (Set.mem_univ _) (i.val / 3 + 1)
  have hwr : (sepL (wrTok c) (writesOf (.cwait qt i)) : sProp 𝕄)
      = iprop(writeTok ES ((nbr (qdir qt) c, qt, cH i) : SK) (i.val / 3 + 1) ∗ emp) := by
    have : (Fin.ofNat 3 (i.val / 3)).val = i.val / 3 := Nat.mod_eq_of_lt (by have := i.isLt; omega)
    show iprop(writeTok ES ((nbr (qdir qt) c, qt, cH i) : SK) ((Fin.ofNat 3 (i.val / 3)).val + 1) ∗ emp) = _
    rw [this]
  -- what comes with either wait
  have hfin : ∀ R : Res, iprop(ctx X K KS ∗ hold X c R ∗ fact (nbr (qdir qt) c) qt i.val
        ∗ writeTok ES ((nbr (qdir qt) c, qt, cH i) : SK) (i.val / 3 + 1) ∗ (∃ W', owes (c.tc : Thread nD τ) O W'))
      ⊢ iprop((((hold X c R ∗ own X c (.peerP (cH i) qt) ∗ hold X c (.reachP (cH i) qt (i.val / 3 + 1)) ∗ emp)
        ∗ ∃ W', owes (c.tc : Thread nD τ) O W') -∗ WP c p Q) -∗ WP c p Q) := by
    intro R
    show iprop(ctx X K KS ∗ hold X c R ∗ (released ES ((nbr (qdir qt) c, qt, cH i) : SK) (i.val / 3 + 1)
          ∗ reached ER (cell (nbr (qdir qt) c) (.pr qt (cH i))) (i.val / 3 + 1))
        ∗ writeTok ES ((nbr (qdir qt) c, qt, cH i) : SK) (i.val / 3 + 1) ∗ (∃ W', owes (c.tc : Thread nD τ) O W'))
      ⊢ iprop((((hold X c R ∗ rawP (nbr (qdir qt) c) (cH i) qt ∗ reached ER (cell (nbr (qdir qt) c) (.pr qt (cH i))) (i.val / 3 + 1) ∗ emp)
        ∗ ∃ W', owes (c.tc : Thread nD τ) O W') -∗ WP c p Q) -∗ WP c p Q)
    iintro ⟨#HC, HR, ⟨Hrel, Hreach⟩, Hw, HO⟩ Hk
    imod htake $$ [Hrel Hw] with Hs
    · isplitr; · iapply hslotI; iexact HC
      isplitl [Hrel] <;> iassumption
    iapply Hk
    isplitr [HO]
    · isplitl [HR]; · iexact HR
      isplitl [Hs]; · iexact Hs
      isplitl [Hreach]; · iexact Hreach
      iempintro
    iexact HO
  by_cases hi : i.val = 8
  · have hi' : i = 8 := Fin.ext hi
    have key := wait_last X (K := K) (KS := KS) c (.cred qt) i.val 1 hw Nat.one_pos rfl
      (by rw [hi]; rfl) (lvl (.cred qt) 0 i) hlv (O := O) (W := W) hO p Q
    have hf : sepL (pay X c (.cred qt) 0) (dutyL (zOf c) (.cred qt)) ⊢ fact (nbr (qdir qt) c) qt i.val := by
      rw [← sepL_toFinset _ _ (duties_nodup _ _),
        show (pay X c (.cred qt) 0) = fun d => (Rd X).payload (cell c (.cred qt)) 0 d from funext fun d => (payload_cell X c (.cred qt) 0 d).symm]
      exact credit_fact X c qt i _ (by rw [hlen]; exact i.isLt)
    have hl : leaves (zOf c) (.cwait qt i) = [.pos (.cred qt) 1, .dat (.peerP (cH i) qt), .reachP (cH i) qt (i.val / 3 + 1)] := by
      exact congrArg (fun a : Res => [a, .dat (.peerP (cH i) qt), .reachP (cH i) qt (i.val / 3 + 1)]) (if_pos hi)
    rw [hl]
    show iprop(ctx X K KS ∗ (hold X c (partRes (.cred qt) i.val) ∗ emp)
      ∗ (emp ∗ (cred (tallyAt (cell c (.cred qt)) (lvl (.cred qt) 0 i) 1) ∗ emp) ∗ sepL (wrTok c) (writesOf (.cwait qt i)))
      ∗ owes (c.tc : Thread nD τ) (O + 0) W)
      ⊢ iprop((((hold X c (.pos (.cred qt) 1) ∗ own X c (.peerP (cH i) qt) ∗ hold X c (.reachP (cH i) qt (i.val / 3 + 1)) ∗ emp)
        ∗ ∃ W', owes (c.tc : Thread nD τ) O W') -∗ WP c p Q) -∗ WP c (.op (.semWait (crSem qt) 1) fun _ => p) Q)
    rw [add_zero, hwr]
    iintro ⟨#HC, ⟨Hp, -⟩, ⟨-, ⟨Hc, -⟩, ⟨Hw, -⟩⟩, HO⟩ Hk
    iapply key $$ [Hp Hc HO]
    · isplitr; · iexact HC
      isplitl [Hc]; · iexact Hc
      isplitl [HO] <;> iassumption
    iintro ⟨HO, Hpos, Hpay⟩
    iapply (hfin (.pos (.cred qt) 1)) $$ [Hpos Hpay Hw HO]
    · isplitr; · iexact HC
      isplitl [Hpos]; · iexact Hpos
      isplitl [Hpay]; · iapply hf; iexact Hpay
      isplitl [Hw] <;> iassumption
    iexact Hk
  · have key := wait_part X (K := K) (KS := KS) c (.cred qt) i.val 1 hw (lvl (.cred qt) 0 i) hlv (O := O) (W := W) hO p Q
    have hf : hold X c (.part (.cred qt) (i.val + 1))
        ⊢ iprop(hold X c (.part (.cred qt) (i.val + 1)) ∗ fact (nbr (qdir qt) c) qt i.val) := by
      refine (fun h0 : hold X c (.part (.cred qt) (i.val + 1)) ⊢ fact (nbr (qdir qt) c) qt i.val => (persistent_entails_right h0).trans Laws.sep_comm.1) ?_
      unfold hold
      iintro ⟨%S, %hS, -, HS⟩
      have hcard : i.val + 1 ≤ S.card := by
        have h1 := hS.2
        rw [expect_cell X c (.cred qt) 0 Nat.one_pos, hdu] at h1
        have h2 := Finset.card_sdiff_add_card_eq_card (hdu ▸ hS.1)
        rw [hlen] at h1 h2
        have h3 : amt (.cred qt) = 1 := rfl
        rw [h3] at h1
        omega
      iapply (credit_fact X c qt i S hcard)
      iexact HS
    have hl : leaves (zOf c) (.cwait qt i)
        = [.part (.cred qt) (i.val + 1), .dat (.peerP (cH i) qt), .reachP (cH i) qt (i.val / 3 + 1)] := by
      exact congrArg (fun a : Res => [a, .dat (.peerP (cH i) qt), .reachP (cH i) qt (i.val / 3 + 1)]) (if_neg hi)
    rw [hl]
    show iprop(ctx X K KS ∗ (hold X c (partRes (.cred qt) i.val) ∗ emp)
      ∗ (emp ∗ (cred (tallyAt (cell c (.cred qt)) (lvl (.cred qt) 0 i) 1) ∗ emp) ∗ sepL (wrTok c) (writesOf (.cwait qt i)))
      ∗ owes (c.tc : Thread nD τ) (O + 0) W)
      ⊢ iprop((((hold X c (.part (.cred qt) (i.val + 1)) ∗ own X c (.peerP (cH i) qt) ∗ hold X c (.reachP (cH i) qt (i.val / 3 + 1)) ∗ emp)
        ∗ ∃ W', owes (c.tc : Thread nD τ) O W') -∗ WP c p Q) -∗ WP c (.op (.semWait (crSem qt) 1) fun _ => p) Q)
    rw [add_zero, hwr]
    iintro ⟨#HC, ⟨Hp, -⟩, ⟨-, ⟨Hc, -⟩, ⟨Hw, -⟩⟩, HO⟩ Hk
    iapply key $$ [Hp Hc HO]
    · isplitr; · iexact HC
      isplitl [Hc]; · iexact Hc
      isplitl [HO] <;> iassumption
    iintro ⟨HO, Hp⟩
    ihave Hp := hf $$ Hp
    icases Hp with ⟨Hp, Hf⟩
    iapply (hfin (.part (.cred qt) (i.val + 1))) $$ [Hp Hf Hw HO]
    · isplitr; · iexact HC
      isplitl [Hp]; · iexact Hp
      isplitl [Hf]; · iexact Hf
      isplitl [Hw] <;> iassumption
    iexact Hk

end Cert.Proof.K
-- ==== Proof.Moves.lean ====
/- The operations that move rows to and from the windows: the copies of the own rows, the products. -/
module

public import proofs.«01_k».proof.Proof.Signals
public import Idealize.ShloMosaic.Lib.Pipeline.Value

@[expose] public section

noncomputable section

namespace Cert.Proof.K

open Cert.KernelIdeal Cert.KernelIdeal.Gen Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

attribute [local instance] Cert.KernelIdeal.Gen.facts

variable {F : FTy → Type} [FloatOps F]

local notation "𝕄" => MT nD τ sig ℕ (Elt F) ℕ UU ℕ

/-! ## Where the result's rows come from -/

/-- The block that an entry of the result lies in: the device and the quarter. -/
def blk (i : S4096x512.Idx) : Dev nD × Fin 4 :=
  (⟨(i 0).val / 256, by have h : (i 0).val < 4096 := (i 0).isLt; show _ < 16; omega⟩, ⟨(i 0).val % 256 / 64, by omega⟩)

/-- Its place among the 64 rows of the quarter, among the 256 of the device. -/
def in64 (i : S4096x512.Idx) : S64x512.Idx := fun a => ⟨(i a).val % S64x512.size a, Nat.mod_lt _ (by revert a; decide)⟩
def in256 (i : S4096x512.Idx) : S256x512.Idx := fun a => ⟨(i a).val % S256x512.size a, Nat.mod_lt _ (by revert a; decide)⟩

theorem o64_val (og : Dev nD) (qt : Fin 4) (j : S64x512.Idx) (a : Fin 2) :
    ((o64 og qt).emb j a).val = (![256 * og.val + 64 * qt.val, 0] : Fin 2 → ℕ) a + (j a).val := by
  show (![256 * og.val + 64 * qt.val, 0] : Fin 2 → ℕ) a + 1 * (j a).val = _
  rw [Nat.one_mul]

theorem o256_val (og : Dev nD) (j : S256x512.Idx) (a : Fin 2) :
    ((o256 og).emb j a).val = (![256 * og.val, 0] : Fin 2 → ℕ) a + (j a).val := by
  show (![256 * og.val, 0] : Fin 2 → ℕ) a + 1 * (j a).val = _
  rw [Nat.one_mul]

theorem blk_o64 (og : Dev nD) (qt : Fin 4) (j : S64x512.Idx) : blk ((o64 og qt).emb j) = (og, qt) := by
  have h0 : ((o64 og qt).emb j 0).val = 256 * og.val + 64 * qt.val + (j 0).val := o64_val og qt j 0
  have h1 : (j 0).val < 64 := (j 0).isLt
  have h2 := qt.isLt
  refine Prod.ext (Fin.ext ?_) (Fin.ext ?_)
  · show ((o64 og qt).emb j 0).val / 256 = og.val
    omega
  · show ((o64 og qt).emb j 0).val % 256 / 64 = qt.val
    omega

theorem blk_o256 (og : Dev nD) (j : S256x512.Idx) : (blk ((o256 og).emb j)).1 = og := by
  have h0 : ((o256 og).emb j 0).val = 256 * og.val + (j 0).val := o256_val og j 0
  have h1 : (j 0).val < 256 := (j 0).isLt
  refine Fin.ext ?_
  show ((o256 og).emb j 0).val / 256 = og.val
  omega

theorem o64_in64 (i : S4096x512.Idx) : (o64 (blk i).1 (blk i).2).emb (in64 i) = i := by
  funext a
  refine Fin.ext ?_
  rw [o64_val]
  fin_cases a
  · show 256 * ((i 0).val / 256) + 64 * ((i 0).val % 256 / 64) + (i 0).val % 64 = (i 0).val
    omega
  · show 0 + (i 1).val % 512 = (i 1).val
    have h : (i 1).val < 512 := (i 1).isLt
    omega

theorem o256_in256 (i : S4096x512.Idx) : (o256 (blk i).1).emb (in256 i) = i := by
  funext a
  refine Fin.ext ?_
  rw [o256_val]
  fin_cases a
  · show 256 * ((i 0).val / 256) + (i 0).val % 256 = (i 0).val
    omega
  · show 0 + (i 1).val % 512 = (i 1).val
    have h : (i 1).val < 512 := (i 1).isLt
    omega

variable (X : Dev nD → Vec F S256x4096 .f32) (Y : Dev nD → Vec F S4096x512 .f32)

/-- 64 rows as a slot of a buffer reads. -/
def asSlot (v : Vec F S64x4096 .f32) : Vec F S1x64x4096 .f32 := shapeCast S1x64x4096 v Gen.shapeCasts_S64x4096_S1x64x4096

/-- What a device's result holds in the end. -/
def goal (c : Dev nD) (i : S4096x512.Idx) : Elt F .f32 :=
  if (blk i).1 = c then val256 (X c) (Y c) (in256 i) else val64 (asSlot (qrow X (blk i).1 (blk i).2)) (Y c) (in64 i)

theorem goal_o64 (c og : Dev nD) (qt : Fin 4) (h : og ≠ c) (i : S4096x512.Idx) (hi : blk i = (og, qt)) :
    goal X Y c i = val64 (asSlot (qrow X og qt)) (Y c) (in64 i) := by
  unfold goal
  rw [hi, if_neg h]

theorem goal_o256 (c : Dev nD) (i : S4096x512.Idx) (hi : (blk i).1 = c) :
    goal X Y c i = val256 (X c) (Y c) (in256 i) := if_pos hi

/-! ## The stores -/

abbrev xM : Memref sig .tc .vmem S256x4096 .f32 := Memref.whole cc0_stg0_0
abbrev wM : Memref sig .tc .vmem S4096x512 .f32 := Memref.whole cc0_stg1_0
abbrev oM : Memref sig .tc .vmem S4096x512 .f32 := Memref.whole cc0_stg2_0

theorem write_o64 (og : Dev nD) (qt : Fin 4) (f : S4096x512.Idx → Elt F .f32) (v : S64x512.Idx → Elt F .f32) (i : S4096x512.Idx) :
    (oM.access (o64 og qt)).write (Elt F) f v Finset.univ i = if blk i = (og, qt) then v (in64 i) else f i := by
  split
  · rename_i h
    have he : (oM.access (o64 og qt)).emb (in64 i) = i := by
      have h2 := o64_in64 i
      rw [h] at h2
      exact h2
    have := View.write_emb_of_mem (v := oM.access (o64 og qt)) (Val := Elt F) f v (M := Finset.univ) (x := in64 i) (Finset.mem_univ _)
    rw [he] at this
    exact this
  · rename_i h
    refine View.write_of_not_mem (v := oM.access (o64 og qt)) (Val := Elt F) f v Finset.univ ?_
    intro hm
    obtain ⟨j, -, hj⟩ := Finset.mem_map.mp hm
    refine h ?_
    rw [← hj]
    exact blk_o64 og qt j

theorem write_o256 (og : Dev nD) (f : S4096x512.Idx → Elt F .f32) (v : S256x512.Idx → Elt F .f32) (i : S4096x512.Idx) :
    (oM.access (o256 og)).write (Elt F) f v Finset.univ i = if (blk i).1 = og then v (in256 i) else f i := by
  split
  · rename_i h
    have he : (oM.access (o256 og)).emb (in256 i) = i := by
      have h2 := o256_in256 i
      rw [h] at h2
      exact h2
    have := View.write_emb_of_mem (v := oM.access (o256 og)) (Val := Elt F) f v (M := Finset.univ) (x := in256 i) (Finset.mem_univ _)
    rw [he] at this
    exact this
  · rename_i h
    refine View.write_of_not_mem (v := oM.access (o256 og)) (Val := Elt F) f v Finset.univ ?_
    intro hm
    obtain ⟨j, -, hj⟩ := Finset.mem_map.mp hm
    refine h ?_
    rw [← hj]
    exact blk_o256 og j

/-! ## The windows while the body runs -/

/-- The rows, the columns, and the result as far as the blocks of `done` go. -/
def win (c : Dev nD) (done : List (Dev nD × Fin 4)) : sProp 𝕄 :=
  iprop(((c.tc : Thread nD τ).loc cc0_stg0_0 ↦{fullShare} X c) ∗ ((c.tc : Thread nD τ).loc cc0_stg1_0 ↦{fullShare} Y c)
    ∗ ∃ f : Buf (Elt F) ((c.tc : Thread nD τ).loc cc0_stg2_0), ⌜∀ i, blk i ∈ done → f i = goal X Y c i⌝
      ∗ ((c.tc : Thread nD τ).loc cc0_stg2_0 ↦{fullShare} f))

/-! ## Slots and their rows -/

theorem stg_set (qt s : Fin 4) : (stgRow qt s).view.set = ((stg qt).access (stgRect s)).set :=
  View.set_reshape (v := (stg qt).access (stgRect s)) Gen.squeezes_S1x64x4096_S64x4096.numel_eq

theorem pbuf_set (qt : Fin 4) (s : Fin 3) : (pbufRow qt s).view.set = ((pbuf qt).access (pbufRect s)).set :=
  View.set_reshape (v := (pbuf qt).access (pbufRect s)) Gen.squeezes_S1x64x4096_S64x4096.numel_eq

theorem cast_read_stg (qt s : Fin 4) (f : (stg qt).view.ty.Contents (Elt F)) :
    shapeCast S64x4096 ((stg qt).view.readAt (Elt F) (stgRect s).toLoadRect f) Gen.shapeCasts_S1x64x4096_S64x4096
      = (stgRow qt s).view.read (Elt F) f := rfl

theorem cast_read_pbuf (qt : Fin 4) (s : Fin 3) (f : (pbuf qt).view.ty.Contents (Elt F)) :
    shapeCast S64x4096 ((pbuf qt).view.readAt (Elt F) (pbufRect s).toLoadRect f) Gen.shapeCasts_S1x64x4096_S64x4096
      = (pbufRow qt s).view.read (Elt F) f := rfl

theorem asSlot_cast (v : Vec F S64x4096 .f32) : shapeCast S64x4096 (asSlot v) Gen.shapeCasts_S1x64x4096_S64x4096 = v :=
  shapeCast_shapeCast _ _ _

theorem val64_congr {a a' : Vec F S1x64x4096 .f32}
    (h : shapeCast S64x4096 a Gen.shapeCasts_S1x64x4096_S64x4096 = shapeCast S64x4096 a' Gen.shapeCasts_S1x64x4096_S64x4096)
    (b : Vec F S4096x512 .f32) : val64 a b = val64 a' b := by
  unfold val64
  rw [h]

theorem read_store_quarter (qt : Fin 4) (f : (stg qt).view.ty.Contents (Elt F)) (a : Vec F S64x4096 .f32) :
    (stgRow qt 0).view.read (Elt F) (((stg qt).access (stgRect 0)).write (Elt F) f (quarter a) Finset.univ) = a := by
  rw [← cast_read_stg]
  have h : (stg qt).view.readAt (Elt F) (stgRect 0).toLoadRect (((stg qt).access (stgRect 0)).write (Elt F) f (quarter a) Finset.univ)
      = quarter a := View.read_write_univ _ _
  rw [h]
  unfold quarter
  exact (shapeCast_shapeCast _ _ _).trans (shapeCast_self _ _)

/-! ## The steps -/

variable (K : Dev nD × Key → ℕ) (KS : SK → ℕ)

/-- What it takes to run an operation, the windows included. -/
def MStep (c : Dev nD) (o : Op) : Prop :=
  ∀ (O : CellTallies nD τ sig ℕ) (W : Waits sig ℕ) (done : List (Dev nD × Fin 4)) (p : BProg F) (Q : PUnit → sProp 𝕄),
    Above (waitLv o) O →
    iprop(ctx X K KS ∗ holds X c (needs (zOf c) o) ∗ tok c o ∗ owes (c.tc : Thread nD τ) (O + payT c o) W ∗ win X Y c done)
      ⊢ iprop(((holds X c (leaves (zOf c) o) ∗ (∃ W', owes (c.tc : Thread nD τ) O W') ∗ win X Y c (done ++ blocks c o)) -∗ WP c p Q)
        -∗ WP c (o.run xM wM oM c p) Q)

variable {K KS}

/-- An operation that stores no rows leaves the windows as they are. -/
theorem step_keep {c : Dev nD} {o : Op} (h : GStep X xM wM oM K KS c o) (hb : blocks c o = []) : MStep X Y K KS c o := by
  intro O W done p Q hO
  have key := h O W p Q hO
  rw [hb, List.append_nil]
  iintro ⟨HC, HN, HT, HO, HW⟩ Hk
  iapply key $$ [HC HN HT HO]
  · isplitl [HC]; · iexact HC
    isplitl [HN]; · iexact HN
    isplitl [HT] <;> iassumption
  iintro ⟨HL, HO⟩
  iapply Hk
  isplitl [HL]; · iexact HL
  isplitl [HO] <;> iassumption

theorem read_x (f : S256x4096.Idx → Elt F .f32) :
    xM.view.readAt (Elt F) (Rect.unit (s := S256x4096) ![0, 0] S256x4096.size Gen.inb_S256x4096_S256x4096_0_0).toLoadRect f = f :=
  Memref.readAt_unit_zero (Elt F) cc0_stg0_0 (by funext a; fin_cases a <;> rfl) Gen.inb_S256x4096_S256x4096_0_0 f

theorem read_w (f : S4096x512.Idx → Elt F .f32) :
    wM.view.readAt (Elt F) (Rect.unit (s := S4096x512) ![0, 0] S4096x512.size Gen.inb_S4096x512_S4096x512_0_0).toLoadRect f = f :=
  Memref.readAt_unit_zero (Elt F) cc0_stg1_0 (by funext a; fin_cases a <;> rfl) Gen.inb_S4096x512_S4096x512_0_0 f

/-- A load of a slot whose rows are held. -/
theorem load_stg (c : Dev nD) (qt s : Fin 4) (q : PosShare TreeShare) (f : Buf (Elt F) ((stgRow qt s).view.loc (c.tc : Thread nD τ)))
    (k : Vec F S1x64x4096 .f32 → BProg F) (Q : PUnit → sProp 𝕄) :
    (((stgRow qt s).view.loc (c.tc : Thread nD τ) ↦[(stgRow qt s).view.set]{q} f) : sProp 𝕄)
      ⊢ iprop((((stgRow qt s).view.loc (c.tc : Thread nD τ) ↦[(stgRow qt s).view.set]{q} f)
          -∗ WP c (k ((stg qt).view.readAt (Elt F) (stgRect s).toLoadRect f)) Q)
        -∗ WP c (.op (.load (stg qt) (stgRect s).toLoadRect (View.loadsAt_vmem Gen.h_S1x64x4096)) k) Q) :=
  wp_load (Val := Elt F) (defs := defs₀ (F := F)) (Γ := .empty) 𝒱₀ (c.tc : Thread nD τ) none Set.univ (m := stg qt)
    (r := (stgRect s).toLoadRect) (f := f) (q := q) (hl := View.loadsAt_vmem Gen.h_S1x64x4096)
    (S := (stgRow qt s).view.set) (Q := Q) (k := k)
    (by rw [stg_set, View.set_slice]; exact Finset.Subset.refl _)

theorem load_pbuf (c : Dev nD) (qt : Fin 4) (s : Fin 3) (q : PosShare TreeShare)
    (f : Buf (Elt F) ((pbufRow qt s).view.loc (c.tc : Thread nD τ)))
    (k : Vec F S1x64x4096 .f32 → BProg F) (Q : PUnit → sProp 𝕄) :
    (((pbufRow qt s).view.loc (c.tc : Thread nD τ) ↦[(pbufRow qt s).view.set]{q} f) : sProp 𝕄)
      ⊢ iprop((((pbufRow qt s).view.loc (c.tc : Thread nD τ) ↦[(pbufRow qt s).view.set]{q} f)
          -∗ WP c (k ((pbuf qt).view.readAt (Elt F) (pbufRect s).toLoadRect f)) Q)
        -∗ WP c (.op (.load (pbuf qt) (pbufRect s).toLoadRect (View.loadsAt_vmem Gen.h_S1x64x4096)) k) Q) :=
  wp_load (Val := Elt F) (defs := defs₀ (F := F)) (Γ := .empty) 𝒱₀ (c.tc : Thread nD τ) none Set.univ (m := pbuf qt)
    (r := (pbufRect s).toLoadRect) (f := f) (q := q) (hl := View.loadsAt_vmem Gen.h_S1x64x4096)
    (S := (pbufRow qt s).view.set) (Q := Q) (k := k)
    (by rw [pbuf_set, View.set_slice]; exact Finset.Subset.refl _)

theorem store_stg (c : Dev nD) (qt : Fin 4) (f : Buf (Elt F) ((stgRow qt 0).view.loc (c.tc : Thread nD τ)))
    (v : Vec F S1x64x4096 .f32) (p : BProg F) (Q : PUnit → sProp 𝕄) :
    (((stgRow qt 0).view.loc (c.tc : Thread nD τ) ↦[(stgRow qt 0).view.set]{fullShare} f) : sProp 𝕄)
      ⊢ iprop((((stgRow qt 0).view.loc (c.tc : Thread nD τ) ↦[(stgRow qt 0).view.set]{fullShare}
            (((stg qt).access (stgRect 0)).write (Elt F) f v Finset.univ)) -∗ WP c p Q)
        -∗ WP c (.op (.store (stg qt) (stgRect 0) v Finset.univ (View.stores_vmem_bits_univ Gen.h_S1x64x4096 rfl) (.inl rfl))
          fun _ => p) Q) :=
  wp_store (Val := Elt F) (defs := defs₀ (F := F)) (Γ := .empty) 𝒱₀ (c.tc : Thread nD τ) none Set.univ (m := stg qt)
    (r := stgRect 0) (Mk := Finset.univ) (f := f) (w := v) (S := (stgRow qt 0).view.set) (Q := Q)
    (hx := View.stores_vmem_bits_univ Gen.h_S1x64x4096 rfl) (hm := .inl rfl) (k := fun _ => p)
    (by rw [stg_set]; exact Finset.Subset.refl _)

/-- From a slot's rows on: the product with the columns, stored. -/
theorem rest_rows (c og : Dev nD) (qt : Fin 4) (hne : og ≠ c) (a : Vec F S1x64x4096 .f32)
    (ha : shapeCast S64x4096 a Gen.shapeCasts_S1x64x4096_S64x4096 = qrow X og qt)
    (done : List (Dev nD × Fin 4)) (p : BProg F) (Q : PUnit → sProp 𝕄) :
    win X Y c done ⊢ iprop((win X Y c (done ++ [(og, qt)]) -∗ WP c p Q)
      -∗ WP c (.op (.load wM (Rect.unit (s := S4096x512) ![0, 0] S4096x512.size Gen.inb_S4096x512_S4096x512_0_0).toLoadRect
          (View.loadsAt_vmem Gen.h_S4096x512)) fun b =>
        .op (.load oM (o64 og qt).toLoadRect (View.loadsAt_vmem Gen.h_S64x512)) fun _ =>
        .op (.store oM (o64 og qt) (val64 a b) Finset.univ (View.stores_vmem_bits_univ Gen.h_S64x512 rfl) (.inl rfl))
          fun _ => p) Q) := by
  unfold win
  iintro ⟨HX, HY, %f, %hf, Hf⟩ Hk
  iapply (wp_load 𝒱₀ (c.tc : Thread nD τ) none Set.univ (m := wM)
    (r := (Rect.unit (s := S4096x512) ![0, 0] S4096x512.size Gen.inb_S4096x512_S4096x512_0_0).toLoadRect)
    (f := Y c) (Finset.subset_univ _)) $$ HY
  rw [read_w]
  iintro HY
  iapply (wp_load 𝒱₀ (c.tc : Thread nD τ) none Set.univ (m := oM) (r := (o64 og qt).toLoadRect)
    (f := f) (Finset.subset_univ _)) $$ Hf
  iintro Hf
  iapply (wp_store 𝒱₀ (c.tc : Thread nD τ) none Set.univ (m := oM) (r := o64 og qt) (Mk := Finset.univ)
    (f := f) (Finset.subset_univ _)) $$ Hf
  iintro Hf
  iapply Hk
  isplitl [HX]; · iexact HX
  isplitl [HY]; · iexact HY
  iexists _
  isplitr
  rotate_left
  · iexact Hf
  ipureintro
  intro i hi
  rw [write_o64]
  split
  · rename_i h
    rw [goal_o64 X Y c og qt hne i h]
    exact congrFun (val64_congr (ha.trans (asSlot_cast _).symm) _) _
  · rename_i h
    refine hf i ?_
    rcases List.mem_append.mp hi with h1 | h1
    · exact h1
    · exact absurd (List.mem_singleton.mp h1) h

theorem step_rgemm (c : Dev nD) (r : Fin 4) (h : Fin 3) (qt : Fin 4) : MStep X Y K KS c (.rgemm r h qt) := by
  intro O W done p Q hO
  have hj : (hold X c (.dat (.hop r h qt 1)) : sProp 𝕄)
      = owns (c.tc : Thread nD τ) (pbufRow qt h) (q2 1) (qrow X (ringOrig c r h qt) qt) := rfl
  show iprop(ctx X K KS ∗ (hold X c (.dat (.hop r h qt 1)) ∗ emp) ∗ (emp ∗ emp ∗ emp)
      ∗ owes (c.tc : Thread nD τ) (O + 0) W ∗ win X Y c done)
    ⊢ iprop((((hold X c (.dat (.hop r h qt 1)) ∗ emp) ∗ (∃ W', owes (c.tc : Thread nD τ) O W')
      ∗ win X Y c (done ++ [(ringOrig c r h qt, qt)])) -∗ WP c p Q) -∗ _)
  rw [add_zero, hj]
  unfold owns
  iintro ⟨-, ⟨⟨%f, %hf, Hf⟩, -⟩, -, HO, HW⟩ Hk
  iapply (load_pbuf c qt h (q2 1) f _ Q) $$ Hf
  iintro Hf
  iapply (rest_rows X Y c (ringOrig c r h qt) qt (ringOrig_ne c r h qt) _ ((cast_read_pbuf qt h f).trans hf) done p Q) $$ HW
  iintro HW
  iapply Hk
  isplitl [Hf]
  · isplitl [Hf]
    · iexists f
      isplitr
      · ipureintro; exact hf
      iexact Hf
    iempintro
  isplitl [HO]
  · iexists W; iexact HO
  iexact HW

theorem step_zgemm (c : Dev nD) (s qt : Fin 4) (hok : okOp (zOf c) (.zgemm s qt) = true) : MStep X Y K KS c (.zgemm s qt) := by
  intro O W done p Q hO
  have hs : s ≠ 0 := by
    intro h
    rw [h] at hok
    exact absurd hok Bool.false_ne_true
  have hj : (hold X c (.dat (.row s qt 3)) : sProp 𝕄)
      = owns (c.tc : Thread nD τ) (stgRow qt s) (q4 3) (qrow X (stgOrig c s) qt) := rfl
  show iprop(ctx X K KS ∗ (hold X c (.dat (.row s qt 3)) ∗ emp) ∗ (emp ∗ emp ∗ emp)
      ∗ owes (c.tc : Thread nD τ) (O + 0) W ∗ win X Y c done)
    ⊢ iprop((((hold X c (.dat (.row s qt 3)) ∗ emp) ∗ (∃ W', owes (c.tc : Thread nD τ) O W')
      ∗ win X Y c (done ++ [(stgOrig c s, qt)])) -∗ WP c p Q) -∗ _)
  rw [add_zero, hj]
  unfold owns
  iintro ⟨-, ⟨⟨%f, %hf, Hf⟩, -⟩, -, HO, HW⟩ Hk
  iapply (load_stg c qt s (q4 3) f _ Q) $$ Hf
  iintro Hf
  iapply (rest_rows X Y c (stgOrig c s) qt (stgOrig_ne c s hs) _ ((cast_read_stg qt s f).trans hf) done p Q) $$ HW
  iintro HW
  iapply Hk
  isplitl [Hf]
  · isplitl [Hf]
    · iexists f
      isplitr
      · ipureintro; exact hf
      iexact Hf
    iempintro
  isplitl [HO]
  · iexists W; iexact HO
  iexact HW

theorem step_gemm0 (c : Dev nD) : MStep X Y K KS c .gemm0 := by
  intro O W done p Q hO
  show iprop(ctx X K KS ∗ emp ∗ (emp ∗ emp ∗ emp) ∗ owes (c.tc : Thread nD τ) (O + 0) W ∗ win X Y c done)
    ⊢ iprop(((emp ∗ (∃ W', owes (c.tc : Thread nD τ) O W') ∗ win X Y c (done ++ blocks c .gemm0)) -∗ WP c p Q) -∗ _)
  rw [add_zero]
  unfold win
  iintro ⟨-, -, -, HO, HX, HY, %f, %hf, Hf⟩ Hk
  iapply (wp_load 𝒱₀ (c.tc : Thread nD τ) none Set.univ (m := xM)
    (r := (Rect.unit (s := S256x4096) ![0, 0] S256x4096.size Gen.inb_S256x4096_S256x4096_0_0).toLoadRect)
    (f := X c) (Finset.subset_univ _)) $$ HX
  rw [read_x]
  iintro HX
  iapply (wp_load 𝒱₀ (c.tc : Thread nD τ) none Set.univ (m := wM)
    (r := (Rect.unit (s := S4096x512) ![0, 0] S4096x512.size Gen.inb_S4096x512_S4096x512_0_0).toLoadRect)
    (f := Y c) (Finset.subset_univ _)) $$ HY
  rw [read_w]
  iintro HY
  iapply (wp_load 𝒱₀ (c.tc : Thread nD τ) none Set.univ (m := oM) (r := (o256 c).toLoadRect)
    (f := f) (Finset.subset_univ _)) $$ Hf
  iintro Hf
  iapply (wp_store 𝒱₀ (c.tc : Thread nD τ) none Set.univ (m := oM) (r := o256 c) (Mk := Finset.univ)
    (f := f) (Finset.subset_univ _)) $$ Hf
  iintro Hf
  iapply Hk
  isplitr; · iempintro
  isplitl [HO]
  · iexists W; iexact HO
  isplitl [HX]; · iexact HX
  isplitl [HY]; · iexact HY
  iexists _
  isplitr
  rotate_left
  · iexact Hf
  ipureintro
  intro i hi
  rw [write_o256]
  split
  · rename_i h
    exact (goal_o256 X Y c i h).symm
  · rename_i h
    refine hf i ?_
    rcases List.mem_append.mp hi with h1 | h1
    · exact h1
    · exfalso
      refine h ?_
      have h2 : blk i ∈ [(c, (0 : Fin 4)), (c, 1), (c, 2), (c, 3)] := h1
      simp only [List.mem_cons, List.not_mem_nil, or_false] at h2
      rcases h2 with h2 | h2 | h2 | h2 <;> rw [h2]

theorem step_copyX (c : Dev nD) (qt : Fin 4) : MStep X Y K KS c (.copyX qt) := by
  intro O W done p Q hO
  have hrow : sepL (own X c) (rows 0 qt)
      = owns (c.tc : Thread nD τ) (stgRow qt 0) fullShare (qrow X c qt) := by
    rw [rows_join, stgOrig_zero]
  show iprop(ctx X K KS ∗ (rawS c 0 qt ∗ emp) ∗ (emp ∗ emp ∗ emp) ∗ owes (c.tc : Thread nD τ) (O + 0) W ∗ win X Y c done)
    ⊢ iprop(((holds X c ((rows 0 qt).map .dat) ∗ (∃ W', owes (c.tc : Thread nD τ) O W') ∗ win X Y c (done ++ [])) -∗ WP c p Q) -∗ _)
  rw [add_zero, List.append_nil, rows_cast, hrow]
  unfold win rawS slot owns
  iintro ⟨-, ⟨⟨%f, Hf⟩, -⟩, -, HO, HX, HR⟩ Hk
  iapply (wp_load 𝒱₀ (c.tc : Thread nD τ) none Set.univ (m := xM) (r := (xRect qt).toLoadRect)
    (f := X c) (Finset.subset_univ _)) $$ HX
  iintro HX
  iapply (load_stg c qt 0 fullShare f _ Q) $$ Hf
  iintro Hf
  iapply (store_stg c qt f _ p Q) $$ Hf
  iintro Hf
  iapply Hk
  isplitl [Hf]
  · iexists _
    isplitr
    rotate_left
    · iexact Hf
    ipureintro
    exact read_store_quarter qt f _
  isplitl [HO]
  · iexists W; iexact HO
  isplitl [HX] <;> iassumption

end Cert.Proof.K
-- ==== Proof.Run.lean ====
/- The whole list of operations, and what is left after it. -/
module

public import proofs.«01_k».proof.Proof.Moves

@[expose] public section

noncomputable section

namespace Cert.Proof.K

open Cert.KernelIdeal Cert.KernelIdeal.Gen Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

attribute [local instance] Cert.KernelIdeal.Gen.facts

variable {F : FTy → Type} [FloatOps F]

local notation "𝕄" => MT nD τ sig ℕ (Elt F) ℕ UU ℕ

variable (X : Dev nD → Vec F S256x4096 .f32) (Y : Dev nD → Vec F S4096x512 .f32)
variable {K : Dev nD × Key → ℕ} {KS : SK → ℕ}

/-- Every operation of the list does what its bookkeeping says. -/
theorem step_all (c : Dev nD) (o : Op) (hok : okOp (zOf c) o = true) : MStep X Y K KS c o := by
  cases o with
  | bsig ex n => exact step_keep X Y (step_bsig X xM wM oM c ex n hok) rfl
  | bwait ex a => exact step_keep X Y (step_bwait X xM wM oM c ex a hok) rfl
  | copyX qt => exact step_copyX X Y c qt
  | zsend up kk src dst qt => exact step_keep X Y (step_zsend X xM wM oM c up kk src dst qt hok) rfl
  | zrecv up kk dst qt => exact step_keep X Y (step_zrecv X xM wM oM c up kk dst qt hok) rfl
  | zsent up kk src dst qt => exact step_keep X Y (step_zsent X xM wM oM c up kk src dst qt hok) rfl
  | rsend r h qt => exact step_keep X Y (step_rsend X xM wM oM c r h qt) rfl
  | rrecv r h qt => exact step_keep X Y (step_rrecv X xM wM oM c r h qt) rfl
  | rsent r h qt => exact step_keep X Y (step_rsent X xM wM oM c r h qt) rfl
  | csig qt i => exact step_keep X Y (step_csig X xM wM oM c qt i) rfl
  | cwait qt i => exact step_keep X Y (step_cwait X xM wM oM c qt i) rfl
  | gemm0 => exact step_gemm0 X Y c
  | rgemm r h qt => exact step_rgemm X Y c r h qt
  | zgemm s qt => exact step_zgemm X Y c s qt hok

/-- Whatever a list still owes, it owes at a level of its payments. -/
theorem owed_lv (c : Dev nD) (l : List Op) (g : GSem nD τ sig) (i : ℕ) (h : 0 < owed c l g i) :
    g.1.2 = .tc ∧ i ∈ l.filterMap payLv := by
  induction l with
  | nil => exact absurd h (Nat.lt_irrefl 0)
  | cons o l ih =>
    have h2 : 0 < owed c l g i + payT c o g i := h
    rcases Nat.pos_of_ne_zero (n := owed c l g i) |> fun _ => Nat.eq_zero_or_pos (owed c l g i) with h0 | h0
    · rw [h0, Nat.zero_add] at h2
      unfold payT at h2
      cases hp : payOf o with
      | none => rw [hp] at h2; exact absurd h2 (Nat.lt_irrefl 0)
      | some p =>
        rw [hp] at h2
        obtain ⟨rfl, rfl⟩ := Pipeline.tallyAt_pos h2
        refine ⟨rfl, List.mem_filterMap.mpr ⟨o, List.mem_cons_self, ?_⟩⟩
        unfold payLv
        rw [hp]
        rfl
    · obtain ⟨h3, h4⟩ := ih h0
      refine ⟨h3, ?_⟩
      obtain ⟨o', ho', he⟩ := List.mem_filterMap.mp h4
      exact List.mem_filterMap.mpr ⟨o', List.mem_cons_of_mem _ ho', he⟩

theorem above_owed (c : Dev nD) (o : Op) (l : List Op) (h : levelsOk (o :: l) = true) : Above (waitLv o) (owed c l) := by
  intro g i hg
  obtain ⟨h1, h2⟩ := owed_lv c l g i hg
  have h3 : ((l.filterMap payLv).all fun j => decide (waitLv o < j) && decide (j < 2000)) = true := (Bool.and_eq_true _ _ ▸ h).1
  have h4 := List.all_eq_true.mp h3 i h2
  rw [Bool.and_eq_true, decide_eq_true_eq, decide_eq_true_eq] at h4
  refine ⟨?_, h4.1⟩
  unfold L
  rw [if_pos h1]
  exact Finset.mem_range.mpr h4.2

/-- A list of operations runs, by the bookkeeping. -/
theorem run_ops (c : Dev nD) (l : List Op) : ∀ (st st' : List Res) (W : Waits sig ℕ) (done : List (Dev nD × Fin 4))
    (Q : PUnit → sProp 𝕄), exec (zOf c) l st = some st' → l.all (okOp (zOf c)) = true → levelsOk l = true →
    iprop(ctx X K KS ∗ holds X c st ∗ sepL (tok c) l ∗ owes (c.tc : Thread nD τ) (owed c l) W ∗ win X Y c done)
      ⊢ iprop(((holds X c st' ∗ (∃ W', owes (c.tc : Thread nD τ) 0 W') ∗ win X Y c (done ++ l.flatMap (blocks c))) -∗ Q ⟨⟩)
        -∗ WP c (runOps xM wM oM c l) Q) := by
  induction l with
  | nil =>
    intro st st' W done Q hx _ _
    obtain rfl : st = st' := Option.some.inj hx
    show iprop(ctx X K KS ∗ holds X c st ∗ emp ∗ owes (c.tc : Thread nD τ) 0 W ∗ win X Y c done)
      ⊢ iprop(((holds X c st ∗ (∃ W', owes (c.tc : Thread nD τ) 0 W') ∗ win X Y c (done ++ [])) -∗ Q ⟨⟩)
        -∗ WP c (.ret ⟨⟩) Q)
    unfold WP
    rw [List.append_nil, wp_ret]
    iintro ⟨-, HS, -, HO, HW⟩ Hk
    imodintro
    iapply Hk
    isplitl [HS]; · iexact HS
    isplitl [HO]
    · iexists W; iexact HO
    iexact HW
  | cons o l ih =>
    intro st st' W done Q hx hok hlv
    have hok' : okOp (zOf c) o = true ∧ l.all (okOp (zOf c)) = true := Bool.and_eq_true _ _ ▸ hok
    have hlv' : levelsOk l = true := (Bool.and_eq_true _ _ ▸ hlv).2
    cases ht : take (needs (zOf c) o) st with
    | none =>
      have : exec (zOf c) (o :: l) st = none := by show (match take (needs (zOf c) o) st with | none => none | some st' => _) = _; rw [ht]
      rw [this] at hx
      exact absurd hx (by simp)
    | some st₁ =>
      have hx' : exec (zOf c) l (leaves (zOf c) o ++ st₁) = some st' := by
        have : exec (zOf c) (o :: l) st = exec (zOf c) l (leaves (zOf c) o ++ st₁) := by
          show (match take (needs (zOf c) o) st with | none => none | some st' => _) = _
          rw [ht]
        rw [← this]; exact hx
      have h1 := step_all X Y (K := K) (KS := KS) c o hok'.1 (owed c l) W done (runOps xM wM oM c l) Q (above_owed c o l hlv)
      have hh : holds X c st = iprop(holds X c (needs (zOf c) o) ∗ holds X c st₁) := sepL_take (hold X c) _ _ _ ht
      have hh2 : holds X c (leaves (zOf c) o ++ st₁) = iprop(holds X c (leaves (zOf c) o) ∗ holds X c st₁) := sepL_append _ _ _
      rw [hh]
      show iprop(ctx X K KS ∗ (holds X c (needs (zOf c) o) ∗ holds X c st₁) ∗ (tok c o ∗ sepL (tok c) l)
          ∗ owes (c.tc : Thread nD τ) (owed c l + payT c o) W ∗ win X Y c done)
        ⊢ iprop(((holds X c st' ∗ (∃ W', owes (c.tc : Thread nD τ) 0 W') ∗ win X Y c (done ++ (blocks c o ++ l.flatMap (blocks c)))) -∗ Q ⟨⟩)
          -∗ WP c (o.run xM wM oM c (runOps xM wM oM c l)) Q)
      iintro ⟨#HC, ⟨HN, HS⟩, ⟨HT, HTs⟩, HO, HW⟩ Hk
      iapply h1 $$ [HN HT HO HW]
      · isplitr; · iexact HC
        isplitl [HN]; · iexact HN
        isplitl [HT]; · iexact HT
        isplitl [HO] <;> iassumption
      iintro ⟨HL, ⟨%W', HO⟩, HW⟩
      iapply (ih (leaves (zOf c) o ++ st₁) st' W' (done ++ blocks c o) Q hx' hok'.2 hlv') $$ [HL HS HTs HO HW]
      · isplitr; · iexact HC
        rw [hh2]
        isplitl [HL HS]
        · isplitl [HL] <;> iassumption
        isplitl [HTs]; · iexact HTs
        isplitl [HO] <;> iassumption
      rw [List.append_assoc]
      iexact Hk

/-! ## The end -/

/-- The buffers' slots, at unknown contents. -/
def slotsAt (c : Dev nD) : sProp 𝕄 :=
  iprop((bigSep Finset.univ fun qt : Fin 4 => bigSep Finset.univ fun s : Fin 4 => rawS (F := F) c s qt)
    ∗ bigSep Finset.univ fun qt : Fin 4 => bigSep Finset.univ fun h : Fin 3 => rawP (F := F) c h qt)

/-- A key whose rounds are over: its counter is at zero. -/
theorem close_key (c : Dev nD) (k : Key) :
    iprop(ctx X K KS ∗ hold X c (.pos k (rounds (zOf c) k))) ⊢ iprop(|={Set.univ}=> semVal (cell c k) 0) := by
  have h : iprop(cellInv ER (Rd X) (K (c, k)) (cell c k) ∗ atPos ER (cell c k) (rounds (zOf c) k) ∅ 0)
      ⊢ iprop(|={Set.univ}=> semVal (cell c k) 0) :=
    Rounds.cell_close ER (Rd X) (Set.mem_univ (K (c, k))) (fun h => h) (R := rounds (zOf c) k)
      (fun r hr => by rw [duties_cell, if_neg (Nat.not_lt.mpr hr)])
  refine .trans ?_ h
  show iprop(ctx X K KS ∗ atPos ER (cell c k) (rounds (zOf c) k) ∅ 0) ⊢ _
  iintro ⟨HC, HP⟩
  isplitl [HC]
  · iapply (ctx_cell (X := X) (K := K) (KS := KS) c k) $$ HC
  iexact HP

theorem rows_slots (c : Dev nD) :
    holds X c (qAll.flatMap fun s => qAll.flatMap fun qt => (rows s qt).map .dat)
      ⊢ bigSep Finset.univ fun qt : Fin 4 => bigSep Finset.univ fun s : Fin 4 => rawS (F := F) c s qt := by
  have hq : (Finset.univ : Finset (Fin 4)) = qAll.toFinset := by decide
  have hn : qAll.Nodup := by decide
  unfold holds
  rw [bigSep_univ_comm, hq, sepL_toFinset _ _ hn, sepL_flatMap]
  refine sepL_mono _ _ _ fun s _ => ?_
  rw [sepL_toFinset _ _ hn, sepL_flatMap]
  refine sepL_mono _ _ _ fun qt _ => ?_
  have h := rows_cast X c (rows s qt)
  unfold holds at h
  rw [h, rows_join]
  exact slot_of_owns c (stgRow qt s) _

theorem hops_slots (c : Dev nD) :
    holds X c (([0, 1, 2] : List (Fin 3)).flatMap fun h => qAll.flatMap fun qt => (hops 3 h qt).map .dat)
      ⊢ bigSep Finset.univ fun qt : Fin 4 => bigSep Finset.univ fun h : Fin 3 => rawP (F := F) c h qt := by
  have hq : (Finset.univ : Finset (Fin 4)) = qAll.toFinset := by decide
  have hh : (Finset.univ : Finset (Fin 3)) = ([0, 1, 2] : List (Fin 3)).toFinset := by decide
  unfold holds
  rw [bigSep_univ_comm, hh, sepL_toFinset _ _ (by decide), sepL_flatMap]
  refine sepL_mono _ _ _ fun h _ => ?_
  rw [hq, sepL_toFinset _ _ (by decide), sepL_flatMap]
  refine sepL_mono _ _ _ fun qt _ => ?_
  have h' := rows_cast X c (hops 3 h qt)
  unfold holds at h'
  rw [h', hops_join]
  exact slot_of_owns c (pbufRow qt h) _

theorem close_keys (c : Dev nD) :
    iprop(ctx X K KS ∗ holds X c (allKeys.map fun k => .pos k (rounds (zOf c) k)))
      ⊢ iprop(|={Set.univ}=> bigSep Finset.univ fun k : Key => semVal (cell c k) 0) := by
  have hk : (Finset.univ : Finset Key) = allKeys.toFinset := rfl
  have h : iprop(ctx X K KS ∗ bigSep Finset.univ fun k : Key => hold X c (.pos k (rounds (zOf c) k)))
      ⊢ iprop(|={Set.univ}=> bigSep Finset.univ fun k : Key => semVal (cell c k) 0) := by
    refine .trans ?_ ((bigSep_mono fun k _ => close_key X (K := K) (KS := KS) c k).trans (bigSep_fupd _ _))
    rw [bigSep_sep']
    iintro ⟨HC, HP⟩
    isplitl [HC]
    · iapply (bigSep_of_persistent (Finset.univ : Finset Key)) $$ HC
    iexact HP
  rw [hk, sepL_toFinset _ _ allKeys_nodup] at h
  unfold holds
  rw [sepL_map]
  exact h

/-- The whole body. -/
theorem run_body (c : Dev nD) (W : Waits sig ℕ) (Q : PUnit → sProp 𝕄) :
    iprop(ctx X K KS ∗ holds X c initR ∗ sepL (tok c) (opsZ (zOf c)) ∗ owes (c.tc : Thread nD τ) (owed c (opsZ (zOf c))) W ∗ win X Y c [])
      ⊢ iprop(((slotsAt (F := F) c ∗ (bigSep Finset.univ fun k : Key => semVal (cell c k) 0) ∗ (∃ W', owes (c.tc : Thread nD τ) 0 W')
            ∗ ((c.tc : Thread nD τ).loc cc0_stg0_0 ↦{fullShare} X c) ∗ ((c.tc : Thread nD τ).loc cc0_stg1_0 ↦{fullShare} Y c)
            ∗ ((c.tc : Thread nD τ).loc cc0_stg2_0 ↦{fullShare} goal X Y c)) -∗ Q ⟨⟩)
        -∗ WP c (runOps xM wM oM c (opsZ (zOf c))) Q) := by
  obtain ⟨st, hst, st', hst'⟩ := plan_ok (zOf c)
  have h1 := run_ops X Y (K := K) (KS := KS) c (opsZ (zOf c)) initR st W [] (fun u => iprop(|={Set.univ}=> Q u)) hst (ok_ops _) (levels_ok _)
  have hfin : holds X c st = iprop(holds X c (finalR (zOf c)) ∗ holds X c st') := sepL_take _ _ _ _ hst'
  have hfin2 : holds X c (finalR (zOf c)) = iprop((holds X c (qAll.flatMap fun s => qAll.flatMap fun qt => (rows s qt).map .dat)
      ∗ holds X c (([0, 1, 2] : List (Fin 3)).flatMap fun h => qAll.flatMap fun qt => (hops 3 h qt).map .dat))
      ∗ holds X c (allKeys.map fun k => .pos k (rounds (zOf c) k))) := by
    unfold finalR holds
    rw [sepL_append, sepL_append]
  rw [hfin, hfin2] at h1
  iintro ⟨#HC, HS, HT, HO, HW⟩ Hk
  iapply (wp_fupd _ _ _ _)
  iapply h1 $$ [HS HT HO HW]
  · isplitr; · iexact HC
    isplitl [HS]; · iexact HS
    isplitl [HT]; · iexact HT
    isplitl [HO] <;> iassumption
  unfold win
  iintro ⟨⟨⟨⟨HR, HH⟩, HP⟩, -⟩, HO, HX, HY, %f, %hf, Hf⟩
  imod (close_keys X (K := K) (KS := KS) c) $$ [HP] with HZ
  · isplitr; · iexact HC
    iexact HP
  imodintro
  iapply Hk
  have hg : f = goal X Y c := funext fun i => hf i (by rw [List.nil_append]; exact blocks_all c _ _)
  rw [hg]
  isplitl [HR HH]
  · unfold slotsAt
    isplitl [HR]
    · iapply (rows_slots X c) $$ HR
    iapply (hops_slots X c) $$ HH
  isplitl [HZ]; · iexact HZ
  isplitl [HO]; · iexact HO
  isplitl [HX]; · iexact HX
  isplitl [HY] <;> iassumption

end Cert.Proof.K
-- ==== Proof.Deal.lean ====
/- The tokens and credits of a launch, dealt to the devices that use them. -/
module

public import proofs.«01_k».proof.Proof.Run

@[expose] public section

noncomputable section

namespace Cert.Proof.K

open Cert.KernelIdeal Cert.KernelIdeal.Gen Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

attribute [local instance] Cert.KernelIdeal.Gen.facts

variable {F : FTy → Type} [FloatOps F]

local notation "𝕄" => MT nD τ sig ℕ (Elt F) ℕ UU ℕ

variable (X : Dev nD → Vec F S256x4096 .f32) {K : Dev nD × Key → ℕ} {KS : SK → ℕ}

/-! ## Credits: what the devices owe is what they wait for -/

/-- The credit of a wait. -/
def tl (c : Dev nD) (p : Key × ℕ) : CellTallies nD τ sig ℕ := tallyAt (cell c p.1) p.2 (amt p.1)

/-- All that a device waits for. -/
def waitsT (c : Dev nD) : CellTallies nD τ sig ℕ := (((opsZ (zOf c)).flatMap waitU).map (tl c)).sum

/-- What an operation pays in a direction. -/
def paysTo (n : Nbr) (o : Op) : Option (Key × ℕ) :=
  match payOf o with
  | some p => if p.1 = n then some (p.2.1, lvl p.2.1 p.2.2.1.val p.2.2.2) else none
  | none => none

/-- What a list of operations pays in a direction, at a device. -/
def dueTo (n : Nbr) (l : List Op) (c : Dev nD) : CellTallies nD τ sig ℕ := ((l.filterMap (paysTo n)).map (tl c)).sum

theorem dueTo_cons (n : Nbr) (o : Op) (l : List Op) (c : Dev nD) :
    dueTo n (o :: l) c = dueTo n [o] c + dueTo n l c := by
  unfold dueTo
  rw [← List.sum_append, ← List.map_append, ← List.filterMap_append]
  rfl

theorem payT_eq (c : Dev nD) (o : Op) :
    payT c o = dueTo .l [o] (nbr .l c) + dueTo .r [o] (nbr .r c) + dueTo .u [o] (nbr .u c) + dueTo .d [o] (nbr .d c) := by
  have h : ∀ n, dueTo n [o] (nbr n c) = match payOf o with
      | some p => if p.1 = n then tallyAt (cell (nbr p.1 c) p.2.1) (lvl p.2.1 p.2.2.1.val p.2.2.2) (amt p.2.1) else 0
      | none => 0 := by
    intro n
    unfold dueTo paysTo
    cases ho : payOf o with
    | none => rw [List.filterMap_cons_none (by rw [ho])]; rfl
    | some p =>
      by_cases hp : p.1 = n
      · rw [List.filterMap_cons_some (by rw [ho]; dsimp only; rw [if_pos hp])]
        dsimp only
        rw [if_pos hp, List.filterMap_nil, List.map_cons, List.map_nil, List.sum_singleton, hp]
        rfl
      · rw [List.filterMap_cons_none (by rw [ho]; dsimp only; rw [if_neg hp])]
        dsimp only
        rw [if_neg hp]
        rfl
  rw [h, h, h, h]
  unfold payT
  cases payOf o with
  | none => simp only [add_zero]
  | some p =>
    dsimp only
    obtain ⟨n, q⟩ := p
    cases n <;> simp

theorem owed_eq (c : Dev nD) (l : List Op) :
    owed c l = dueTo .l l (nbr .l c) + dueTo .r l (nbr .r c) + dueTo .u l (nbr .u c) + dueTo .d l (nbr .d c) := by
  induction l with
  | nil => show (0 : CellTallies nD τ sig ℕ) = 0 + 0 + 0 + 0; simp only [add_zero]
  | cons o l ih =>
    show owed c l + payT c o = _
    rw [ih, payT_eq, dueTo_cons .l o l, dueTo_cons .r o l, dueTo_cons .u o l, dueTo_cons .d o l]
    ac_rfl

theorem waits_eq (c : Dev nD) :
    waitsT c = dueTo .r (opsZ (zOf (nbr .l c))) c + dueTo .l (opsZ (zOf (nbr .r c))) c + dueTo .d (opsZ (zOf (nbr .u c))) c
      + dueTo .u (opsZ (zOf (nbr .d c))) c := by
  unfold waitsT
  rw [← ((dues_ok (zOf c)).map (tl c)).sum_eq]
  unfold inL
  rw [List.flatMap_cons, List.flatMap_cons, List.flatMap_cons, List.flatMap_cons, List.flatMap_nil, List.append_nil,
    List.map_append, List.map_append, List.map_append, List.sum_append, List.sum_append, List.sum_append,
    zOf_nbr, zOf_nbr, zOf_nbr, zOf_nbr, ← add_assoc, ← add_assoc]
  rfl

/-- The devices, each for its neighbour in a direction. -/
def nbrE (n : Nbr) : Dev nD ≃ Dev nD where
  toFun := nbr n
  invFun := nbr n.back
  left_inv c := nbr_back n c
  right_inv c := by have h := nbr_back n.back c; rw [back_back] at h; exact h

theorem sum_dueTo (n : Nbr) : (∑ d, dueTo n (opsZ (zOf d)) (nbr n d)) = ∑ c, dueTo n (opsZ (zOf (nbr n.back c))) c := by
  rw [← Equiv.sum_comp (nbrE n.back) fun d => dueTo n (opsZ (zOf d)) (nbr n d)]
  refine Finset.sum_congr rfl fun c _ => ?_
  show dueTo n (opsZ (zOf (nbr n.back c))) (nbr n (nbr n.back c)) = _
  have h := nbr_back n.back c
  rw [back_back] at h
  rw [h]

/-- All that is owed is all that is waited for. -/
theorem dues_sum : (∑ d : Dev nD, owed d (opsZ (zOf d))) = ∑ c : Dev nD, waitsT c := by
  rw [Finset.sum_congr rfl fun d _ => owed_eq d (opsZ (zOf d)), Finset.sum_congr rfl fun c _ => waits_eq c]
  simp only [Finset.sum_add_distrib]
  rw [sum_dueTo, sum_dueTo, sum_dueTo, sum_dueTo]
  show _ + _ + _ + _ = _ + _ + _ + _
  simp only [Nbr.back]
  ac_rfl

theorem waitsT_here (c : Dev nD) (g : GSem nD τ sig) (h : waitsT c g ≠ 0) : g.1 = (c.tc : Thread nD τ) := by
  unfold waitsT at h
  generalize (opsZ (zOf c)).flatMap waitU = l at h
  induction l with
  | nil => exact absurd rfl h
  | cons p l ih =>
    by_contra hg
    refine h ?_
    rw [List.map_cons, List.sum_cons]
    show tl c p g + _ = 0
    rw [not_imp_comm.mp ih hg, add_zero]
    refine Finsupp.ext fun i => ?_
    unfold tl
    rw [tallyAt_apply, if_neg fun h => hg (by rw [h.1])]
    rfl

theorem cred_list (c : Dev nD) (l : List (Key × ℕ)) : (cred ((l.map (tl c)).sum) : sProp 𝕄) = sepL (crTok c) l := by
  induction l with
  | nil => exact cred_zero
  | cons p l ih =>
    rw [List.map_cons, List.sum_cons, eqv (cred_add _ _), ih]
    rfl

/-- The launch's credit is that of the waits. -/
theorem launch_cred (c : Dev nD) :
    (Pipeline.launchCred (fun d : Dev nD => owed d (opsZ (zOf d))) c : sProp 𝕄) = sepL (crTok c) ((opsZ (zOf c)).flatMap waitU) := by
  rw [Pipeline.launchCred_of_sum _ waitsT dues_sum waitsT_here, ← cred_list]
  rfl

/-! ## Tokens -/

theorem sepL_sep {α : Type} (Φ Ψ : α → sProp 𝕄) (l : List α) : sepL (fun a => iprop(Φ a ∗ Ψ a)) l = iprop(sepL Φ l ∗ sepL Ψ l) := by
  induction l with
  | nil => exact (eqv Laws.emp_sep).symm
  | cons a l ih =>
    show iprop((Φ a ∗ Ψ a) ∗ sepL (fun a => iprop(Φ a ∗ Ψ a)) l) = iprop((Φ a ∗ sepL Φ l) ∗ Ψ a ∗ sepL Ψ l)
    rw [ih]
    exact eqv Laws.sep_sep_sep_comm

/-- The tokens of all operations, by kind. -/
theorem toks_split (c : Dev nD) (l : List Op) :
    (sepL (tok c) l : sProp 𝕄)
      = iprop(sepL (duTok c) (l.flatMap paysOf) ∗ sepL (crTok c) (l.flatMap waitU) ∗ sepL (wrTok c) (l.flatMap writesOf)) := by
  rw [sepL_flatMap, sepL_flatMap, sepL_flatMap, ← sepL_sep, ← sepL_sep]
  rfl

/-- What is wanted, out of all there is. -/
theorem sepL_of_univ {α : Type} [Fintype α] [DecidableEq α] (Φ : α → sProp 𝕄) (l : List α) (h : l.Nodup) :
    bigSep Finset.univ Φ ⊢ sepL Φ l := by
  rw [← sepL_toFinset _ _ h]
  exact bigSep_subset (Finset.subset_univ _)

theorem dst_inj (k : Key) (d : Fin 9) : ∃ e : Dev nD ≃ Dev nD, ∀ c, e c = dst c k d := by
  cases k with
  | bar => exact ⟨nbrE _, fun _ => rfl⟩
  | exit => exact ⟨nbrE _, fun _ => rfl⟩
  | cred qt => exact ⟨nbrE _, fun _ => rfl⟩
  | zs up kk qt => exact ⟨Equiv.refl _, fun _ => rfl⟩
  | zr up kk qt => exact ⟨nbrE _, fun _ => rfl⟩
  | hs qt r => exact ⟨Equiv.refl _, fun _ => rfl⟩
  | ps qt h => exact ⟨Equiv.refl _, fun _ => rfl⟩
  | pr qt h => exact ⟨nbrE _, fun _ => rfl⟩

/-- A payment's token, at the device whose key it is. -/
abbrev tokAt (x : Dev nD × Key × Fin 4 × Fin 9) : GSem nD τ sig × ℕ × Fin 9 := (cell x.1 x.2.1, x.2.2.1.val, x.2.2.2)

theorem cell_inj : Function.Injective fun x : Dev nD × Key => cell x.1 x.2 := by
  rintro ⟨c, k⟩ ⟨c', k'⟩ h
  have h1 : c = c' := congrArg (fun g : GSem nD τ sig => g.1.1) h
  have h2 : k = k' := loc_inj (congrArg Prod.snd h)
  rw [h1, h2]

theorem tokAt_inj : Function.Injective tokAt := by
  rintro ⟨c, k, r, d⟩ ⟨c', k', r', d'⟩ h
  have h1 : ((c, k) : Dev nD × Key) = (c', k') := cell_inj (congrArg Prod.fst h)
  have h2 : r = r' := Fin.ext (congrArg (fun y : GSem nD τ sig × ℕ × Fin 9 => y.2.1) h)
  have h3 : d = d' := congrArg (fun y : GSem nD τ sig × ℕ × Fin 9 => y.2.2) h
  obtain ⟨rfl, rfl⟩ := Prod.mk.inj h1
  rw [h2, h3]

def allCells : Finset (GSem nD τ sig) := Finset.univ.map ⟨_, cell_inj⟩
def allToks : Finset (GSem nD τ sig × ℕ × Fin 9) := Finset.univ.map ⟨tokAt, tokAt_inj⟩

theorem over_cells (Φ : GSem nD τ sig → sProp 𝕄) :
    bigSep allCells Φ = bigSep Finset.univ fun c : Dev nD => bigSep Finset.univ fun k : Key => Φ (cell c k) := by
  unfold allCells
  rw [bigSep_map, bigSep_univ_prod]
  rfl

/-- The payments' tokens, dealt to their payers. -/
theorem deal_duties :
    bigSep allToks (fun x => (dutyTok ER x.1 x.2.1 x.2.2 : sProp 𝕄))
      ⊢ bigSep Finset.univ fun c : Dev nD => sepL (duTok c) ((opsZ (zOf c)).flatMap paysOf) := by
  have h : bigSep allToks (fun x => (dutyTok ER x.1 x.2.1 x.2.2 : sProp 𝕄))
      = bigSep Finset.univ fun c : Dev nD => bigSep Finset.univ fun p : Key × Fin 4 × Fin 9 => duTok c p := by
    unfold allToks
    rw [bigSep_map, bigSep_univ_prod, bigSep_univ_comm,
      bigSep_univ_comm (fun (c : Dev nD) (p : Key × Fin 4 × Fin 9) => (duTok c p : sProp 𝕄))]
    refine bigSep_congr fun p _ => ?_
    obtain ⟨e, he⟩ := dst_inj p.1 p.2.2
    rw [bigSep_univ_equiv e]
    refine bigSep_congr fun c _ => ?_
    unfold duTok
    rw [← he]
    rfl
  rw [h]
  exact bigSep_mono fun c _ => sepL_of_univ _ _ (pays_nodup _)

/-- The slots' tokens, dealt to their writers. -/
theorem deal_writes :
    bigSep ((Finset.univ : Finset SK) ×ˢ Finset.range 3) (fun x => (writeTok ES x.1 (x.2 + 1) : sProp 𝕄))
      ⊢ bigSep Finset.univ fun c : Dev nD => sepL (wrTok c) ((opsZ (zOf c)).flatMap writesOf) := by
  have hs : ((Finset.univ : Finset SK) ×ˢ Finset.range 3)
      = (Finset.univ : Finset (SK × Fin 3)).map ⟨fun x => (x.1, x.2.val), fun x y h => Prod.ext (Prod.mk.inj h).1 (Fin.ext (Prod.mk.inj h).2)⟩ := by
    ext ⟨p, i⟩
    rw [Finset.mem_product, Finset.mem_map, Finset.mem_range]
    refine ⟨fun h => ⟨(p, ⟨i, h.2⟩), Finset.mem_univ _, rfl⟩, ?_⟩
    rintro ⟨x, -, hx⟩
    exact ⟨Finset.mem_univ _, (Prod.mk.inj hx).2 ▸ x.2.isLt⟩
  have h : bigSep ((Finset.univ : Finset SK) ×ˢ Finset.range 3) (fun x => (writeTok ES x.1 (x.2 + 1) : sProp 𝕄))
      = bigSep Finset.univ fun c : Dev nD => bigSep Finset.univ fun p : Fin 4 × Fin 3 × Fin 3 => wrTok c p := by
    rw [hs, bigSep_map, bigSep_univ_prod, bigSep_univ_prod, bigSep_univ_comm,
      bigSep_univ_comm (fun (c : Dev nD) (p : Fin 4 × Fin 3 × Fin 3) => (wrTok c p : sProp 𝕄)),
      bigSep_univ_prod, bigSep_univ_prod]
    refine bigSep_congr fun qt _ => ?_
    rw [bigSep_univ_prod]
    refine bigSep_congr fun s _ => ?_
    rw [bigSep_univ_equiv (nbrE (qdir qt)), bigSep_univ_comm]
    rfl
  rw [h]
  exact bigSep_mono fun c _ => sepL_of_univ _ _ (writes_nodup _)

/-! ## What a device starts from -/

/-- A device's positions and readers. -/
def posAt (c : Dev nD) : sProp 𝕄 := bigSep Finset.univ fun k : Key => atPos ER (cell c k) 0 ∅ 0
def readAt (c : Dev nD) : sProp 𝕄 := bigSep Finset.univ fun p : Fin 4 × Fin 3 => readerAt ES ((c, p.1, p.2) : SK) 0

theorem sepL_persistent {α : Type} (R : sProp 𝕄) [Persistent R] (Φ : α → sProp 𝕄) (l : List α) (h : ∀ a ∈ l, R ⊢ Φ a) : R ⊢ sepL Φ l := by
  induction l with
  | nil => exact Laws.affine
  | cons a l ih =>
    show R ⊢ iprop(Φ a ∗ sepL Φ l)
    iintro #H
    isplitr
    · iapply (h a (.head _)); iexact H
    iapply (ih fun b hb => h b (.tail _ hb)); iexact H

theorem holds_init (c : Dev nD) : iprop(ctx X K KS ∗ slotsAt c ∗ posAt c ∗ readAt c) ⊢ holds X c initR := by
  have hq : (Finset.univ : Finset (Fin 4)) = qAll.toFinset := by decide
  have hh : (Finset.univ : Finset (Fin 3)) = ([0, 1, 2] : List (Fin 3)).toFinset := by decide
  have h1 : (bigSep Finset.univ fun qt : Fin 4 => bigSep Finset.univ fun s : Fin 4 => rawS (F := F) c s qt)
      = sepL (hold X c) (qAll.flatMap fun s => qAll.map fun qt => .dat (.rawS s qt)) := by
    rw [bigSep_univ_comm, hq, sepL_toFinset _ _ (by decide), sepL_flatMap]
    refine congrFun (congrArg sepL (funext fun s => ?_)) _
    rw [sepL_toFinset _ _ (by decide), sepL_map]
    rfl
  have h2 : (bigSep Finset.univ fun qt : Fin 4 => bigSep Finset.univ fun h : Fin 3 => rawP (F := F) c h qt)
      = sepL (hold X c) (([0, 1, 2] : List (Fin 3)).flatMap fun h => qAll.map fun qt => .dat (.rawP h qt)) := by
    rw [bigSep_univ_comm, hh, sepL_toFinset _ _ (by decide), sepL_flatMap]
    refine congrFun (congrArg sepL (funext fun s => ?_)) _
    rw [hq, sepL_toFinset _ _ (by decide), sepL_map]
    rfl
  have h4 : (readAt c : sProp 𝕄) = sepL (hold X c) (([0, 1, 2] : List (Fin 3)).flatMap fun h => qAll.map fun qt => .rd h qt 0) := by
    unfold readAt
    rw [bigSep_univ_prod, bigSep_univ_comm, hh, sepL_toFinset _ _ (by decide), sepL_flatMap]
    refine congrFun (congrArg sepL (funext fun s => ?_)) _
    rw [hq, sepL_toFinset _ _ (by decide), sepL_map]
    rfl
  have h8 : (posAt c : sProp 𝕄) = sepL (hold X c) (allKeys.map fun k => .pos k 0) := by
    unfold posAt
    rw [show (Finset.univ : Finset Key) = allKeys.toFinset from rfl, sepL_toFinset _ _ allKeys_nodup, sepL_map]
    rfl
  have h3 : ctx X K KS ⊢ sepL (hold X c) (qAll.map fun qt => .facts qt 0) := by
    refine sepL_persistent _ _ _ fun a ha => ?_
    obtain ⟨qt, -, rfl⟩ := List.mem_map.mp ha
    show _ ⊢ factsOf c qt 0
    unfold factsOf
    rw [Finset.range_zero, bigSep_empty]
    exact Laws.affine
  have h5 : ctx X K KS ⊢ sepL (hold X c) (([0, 1, 2] : List (Fin 3)).flatMap fun h => qAll.map fun qt => .reachP h qt 0) := by
    refine sepL_persistent _ _ _ fun a ha => ?_
    obtain ⟨h, -, ha⟩ := List.mem_flatMap.mp ha
    obtain ⟨qt, -, rfl⟩ := List.mem_map.mp ha
    exact ctx_reached _ _
  have h6 : ctx X K KS ⊢ sepL (hold X c) (qAll.flatMap fun qt => qAll.map fun r => .reach (.hs qt r) 0) := by
    refine sepL_persistent _ _ _ fun a ha => ?_
    obtain ⟨h, -, ha⟩ := List.mem_flatMap.mp ha
    obtain ⟨qt, -, rfl⟩ := List.mem_map.mp ha
    exact ctx_reached _ _
  have h7 : ctx X K KS ⊢ sepL (hold X c) (([1, 2] : List (Fin 3)).flatMap fun h => qAll.map fun qt => .reach (.ps qt h) 0) := by
    refine sepL_persistent _ _ _ fun a ha => ?_
    obtain ⟨h, -, ha⟩ := List.mem_flatMap.mp ha
    obtain ⟨qt, -, rfl⟩ := List.mem_map.mp ha
    exact ctx_reached _ _
  unfold holds initR slotsAt
  rw [sepL_append, sepL_append, sepL_append, sepL_append, sepL_append, sepL_append, sepL_append, h1, h2, h4, h8]
  iintro ⟨#HC, ⟨H1, H2⟩, H8, H4⟩
  isplitr [H8]
  · isplitl
    · isplitl
      · isplitl
        · isplitl [H1 H2]
          · isplitl [H1 H2]
            · isplitl [H1] <;> iassumption
            iapply h3; iexact HC
          iexact H4
        iapply h5; iexact HC
      iapply h6; iexact HC
    iapply h7; iexact HC
  iexact H8

end Cert.Proof.K
-- ==== Proof.Split.lean ====
/- The staging and ring buffers cut into their slots, and put together again. -/
module

public import proofs.«01_k».proof.Proof.Run
public import Idealize.ShloMosaic.Lib.Ring

@[expose] public section

noncomputable section

namespace Cert.Proof.K

open Cert.KernelIdeal Cert.KernelIdeal.Gen Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

attribute [local instance] Cert.KernelIdeal.Gen.facts

variable {F : FTy → Type} [FloatOps F]

local notation "𝕄" => MT nD τ sig ℕ (Elt F) ℕ UU ℕ

/-! ## The slots of a buffer -/

theorem mem_stgRect (s : Fin 4) (i : S4x64x4096.Idx) : i ∈ (stgRect s).set ↔ (i 0).val = s.val := by
  have h1 : (i 1).val < 64 := (i 1).isLt
  have h2 : (i 2).val < 4096 := (i 2).isLt
  rw [Rect.mem_set_unit]
  constructor
  · intro h
    have h0 : s.val ≤ (i 0).val ∧ (i 0).val < s.val + 1 := h 0
    omega
  · intro h a
    fin_cases a
    · show s.val ≤ (i 0).val ∧ (i 0).val < s.val + 1
      omega
    · show 0 ≤ (i 1).val ∧ (i 1).val < 0 + 64
      omega
    · show 0 ≤ (i 2).val ∧ (i 2).val < 0 + 4096
      omega

theorem mem_pbufRect (s : Fin 3) (i : S3x64x4096.Idx) : i ∈ (pbufRect s).set ↔ (i 0).val = s.val := by
  have h1 : (i 1).val < 64 := (i 1).isLt
  have h2 : (i 2).val < 4096 := (i 2).isLt
  rw [Rect.mem_set_unit]
  constructor
  · intro h
    have h0 : s.val ≤ (i 0).val ∧ (i 0).val < s.val + 1 := h 0
    omega
  · intro h a
    fin_cases a
    · show s.val ≤ (i 0).val ∧ (i 0).val < s.val + 1
      omega
    · show 0 ≤ (i 1).val ∧ (i 1).val < 0 + 64
      omega
    · show 0 ≤ (i 2).val ∧ (i 2).val < 0 + 4096
      omega

/-- A family of rectangles told apart by a coordinate that names each: under a view, disjoint and covering. -/
theorem view_disjoint {sp : Space} {s : Shape} {n : ℕ} (v : View sig .tc sp s .f32) (r : Fin n → Rect s) (key : s.Idx → ℕ)
    (h : ∀ t i, i ∈ (r t).set ↔ key i = t.val) (t t' : Fin n) (hne : t ≠ t') :
    Disjoint (v.slice (r t)).set (v.slice (r t')).set := by
  rw [View.set_slice, View.set_slice]
  refine (Finset.disjoint_map _).mpr (Finset.disjoint_left.mpr fun i hi hi' => hne (Fin.ext ?_))
  rw [← (h t i).mp hi, ← (h t' i).mp hi']

theorem view_cover {sp : Space} {s : Shape} {n : ℕ} (v : View sig .tc sp s .f32) (r : Fin n → Rect s) (key : s.Idx → ℕ)
    (h : ∀ t i, i ∈ (r t).set ↔ key i = t.val) (hk : ∀ i, key i < n) :
    (Finset.univ.biUnion fun t => (v.slice (r t)).set) = v.set := by
  ext i
  constructor
  · intro hi
    obtain ⟨t, -, hi⟩ := Finset.mem_biUnion.mp hi
    exact View.set_slice_subset _ _ hi
  · intro hi
    rw [View.set, Finset.mem_map] at hi
    obtain ⟨x, -, rfl⟩ := hi
    refine Finset.mem_biUnion.mpr ⟨⟨key x, hk x⟩, Finset.mem_univ _, ?_⟩
    rw [View.set_slice]
    exact Finset.mem_map_of_mem _ ((h _ _).mpr rfl)

/-- A buffer held whole, at unknown contents. -/
abbrev wholeAt (c : Dev nD) (b : Ref sig .tc) : sProp 𝕄 :=
  iprop(∃ f : Buf (Elt F) ((c.tc : Thread nD τ).loc b), ((c.tc : Thread nD τ).loc b) ↦{fullShare} f)

theorem whole_eq (c : Dev nD) (b : Ref sig .tc) :
    (iprop(∃ f : Buf (Elt F) ((View.whole b).loc (c.tc : Thread nD τ)),
      ((View.whole b).loc (c.tc : Thread nD τ) ↦[(View.whole b).set]{fullShare} f)) : sProp 𝕄) = wholeAt (F := F) c b := by
  rw [View.set_whole]

/-- The buffers' references. -/
def stgRef : Fin 4 → Ref sig .tc
  | 0 => cc0_scratch0
  | 1 => cc0_scratch1
  | 2 => cc0_scratch2
  | 3 => cc0_scratch3
def pbufRef : Fin 4 → Ref sig .tc
  | 0 => cc0_scratch4
  | 1 => cc0_scratch5
  | 2 => cc0_scratch6
  | 3 => cc0_scratch7

theorem stg_whole (c : Dev nD) (qt : Fin 4) :
    (iprop(∃ f : Buf (Elt F) ((stg qt).view.loc (c.tc : Thread nD τ)), ((stg qt).view.loc (c.tc : Thread nD τ) ↦[(stg qt).view.set]{fullShare} f)) : sProp 𝕄)
      = wholeAt (F := F) c (stgRef qt) :=
  match qt with
  | 0 => whole_eq c cc0_scratch0
  | 1 => whole_eq c cc0_scratch1
  | 2 => whole_eq c cc0_scratch2
  | 3 => whole_eq c cc0_scratch3

theorem pbuf_whole (c : Dev nD) (qt : Fin 4) :
    (iprop(∃ f : Buf (Elt F) ((pbuf qt).view.loc (c.tc : Thread nD τ)), ((pbuf qt).view.loc (c.tc : Thread nD τ) ↦[(pbuf qt).view.set]{fullShare} f)) : sProp 𝕄)
      = wholeAt (F := F) c (pbufRef qt) :=
  match qt with
  | 0 => whole_eq c cc0_scratch4
  | 1 => whole_eq c cc0_scratch5
  | 2 => whole_eq c cc0_scratch6
  | 3 => whole_eq c cc0_scratch7

section
variable {ℓ : Loc nD τ sig} {n : ℕ} (I : Fin n → Finset (Idx ℓ)) (hd : ∀ t t', t ≠ t' → Disjoint (I t) (I t'))
  (S : Finset (Idx ℓ)) (hS : Finset.univ.biUnion I = S)
include hd hS

theorem cut_blocks : (iprop(∃ f : Buf (Elt F) ℓ, ℓ ↦[S]{fullShare} f) : sProp 𝕄) ⊢ bigSep Finset.univ fun t => slot ℓ (I t) := by
  have h (f : Buf (Elt F) ℓ) : (bigSep Finset.univ (fun t => (ℓ ↦[I t]{fullShare} f)) : sProp 𝕄) ⊢ bigSep Finset.univ fun t => slot ℓ (I t) :=
    bigSep_mono fun t _ => show (ℓ ↦[I t]{fullShare} f : sProp 𝕄) ⊢ iprop(∃ f : Buf (Elt F) ℓ, ℓ ↦[I t]{fullShare} f) from by
      iintro H
      iexists f
      iexact H
  iintro ⟨%f, H⟩
  iapply (h f)
  iapply (Entails.of_eq (Ring.pointsTo_sub_blocks I hd S hS (q := fullShare) f)) $$ H

theorem join_blocks (f₀ : Buf (Elt F) ℓ) :
    bigSep Finset.univ (fun t => slot ℓ (I t)) ⊢ (iprop(∃ f : Buf (Elt F) ℓ, ℓ ↦[S]{fullShare} f) : sProp 𝕄) :=
  Ring.pointsTo_sub_blocks_join_exists I hd S hS f₀

end

/-- The two kinds of buffers, by quarter. -/
def bufsAt (c : Dev nD) : sProp 𝕄 :=
  iprop((bigSep Finset.univ fun qt : Fin 4 => wholeAt (F := F) c (stgRef qt)) ∗ bigSep Finset.univ fun qt : Fin 4 => wholeAt (F := F) c (pbufRef qt))

theorem rawS_eq (c : Dev nD) (s qt : Fin 4) :
    (rawS c s qt : sProp 𝕄) = slot ((stg qt).view.loc (c.tc : Thread nD τ)) ((stg qt).view.slice (stgRect s)).set := by
  unfold rawS
  rw [stg_set]
  rfl

theorem rawP_eq (c : Dev nD) (s : Fin 3) (qt : Fin 4) :
    (rawP c s qt : sProp 𝕄) = slot ((pbuf qt).view.loc (c.tc : Thread nD τ)) ((pbuf qt).view.slice (pbufRect s)).set := by
  unfold rawP
  rw [pbuf_set]
  rfl

theorem stg_cut (c : Dev nD) (qt : Fin 4) : wholeAt (F := F) c (stgRef qt) ⊢ bigSep Finset.univ fun s : Fin 4 => rawS (F := F) c s qt := by
  have h := cut_blocks (F := F) (ℓ := (stg qt).view.loc (c.tc : Thread nD τ)) (fun s => ((stg qt).view.slice (stgRect s)).set)
    (view_disjoint _ _ (fun i => (i 0).val) mem_stgRect) _ (view_cover _ _ (fun i => (i 0).val) mem_stgRect fun i => (i 0).isLt)
  rw [stg_whole] at h
  exact h.trans (Entails.of_eq (bigSep_congr fun s _ => (rawS_eq c s qt).symm))

theorem stg_glue (c : Dev nD) (qt : Fin 4) : (bigSep Finset.univ fun s : Fin 4 => rawS (F := F) c s qt) ⊢ wholeAt (F := F) c (stgRef qt) := by
  have h := join_blocks (F := F) (ℓ := (stg qt).view.loc (c.tc : Thread nD τ)) (fun s => ((stg qt).view.slice (stgRect s)).set)
    (view_disjoint _ _ (fun i => (i 0).val) mem_stgRect) _ (view_cover _ _ (fun i => (i 0).val) mem_stgRect fun i => (i 0).isLt)
    (fun _ => Classical.choice (Elt.nonempty F _))
  rw [stg_whole] at h
  exact (Entails.of_eq (bigSep_congr fun s _ => rawS_eq c s qt)).trans h

theorem pbuf_cut (c : Dev nD) (qt : Fin 4) : wholeAt (F := F) c (pbufRef qt) ⊢ bigSep Finset.univ fun s : Fin 3 => rawP (F := F) c s qt := by
  have h := cut_blocks (F := F) (ℓ := (pbuf qt).view.loc (c.tc : Thread nD τ)) (fun s => ((pbuf qt).view.slice (pbufRect s)).set)
    (view_disjoint _ _ (fun i => (i 0).val) mem_pbufRect) _ (view_cover _ _ (fun i => (i 0).val) mem_pbufRect fun i => (i 0).isLt)
  rw [pbuf_whole] at h
  exact h.trans (Entails.of_eq (bigSep_congr fun s _ => (rawP_eq c s qt).symm))

theorem pbuf_glue (c : Dev nD) (qt : Fin 4) : (bigSep Finset.univ fun s : Fin 3 => rawP (F := F) c s qt) ⊢ wholeAt (F := F) c (pbufRef qt) := by
  have h := join_blocks (F := F) (ℓ := (pbuf qt).view.loc (c.tc : Thread nD τ)) (fun s => ((pbuf qt).view.slice (pbufRect s)).set)
    (view_disjoint _ _ (fun i => (i 0).val) mem_pbufRect) _ (view_cover _ _ (fun i => (i 0).val) mem_pbufRect fun i => (i 0).isLt)
    (fun _ => Classical.choice (Elt.nonempty F _))
  rw [pbuf_whole] at h
  exact (Entails.of_eq (bigSep_congr fun s _ => rawP_eq c s qt)).trans h

theorem bufs_cut (c : Dev nD) : bufsAt (F := F) c ⊢ slotsAt c := by
  unfold bufsAt slotsAt
  exact BIClass.sep_mono (bigSep_mono fun qt _ => stg_cut c qt) (bigSep_mono fun qt _ => pbuf_cut c qt)

theorem bufs_glue (c : Dev nD) : slotsAt c ⊢ bufsAt (F := F) c := by
  unfold bufsAt slotsAt
  exact BIClass.sep_mono (bigSep_mono fun qt _ => stg_glue c qt) (bigSep_mono fun qt _ => pbuf_glue c qt)

theorem bufs_rest (c : Dev nD) :
    (Pipeline.scopedRest (Ix := ℕ) (Name := ℕ) (U := UU) (Lvl := ℕ) (Val := Elt F) spec0 c : sProp 𝕄) = bufsAt c := by
  unfold bufsAt
  rw [scopedRest0_eq, bigSep_univ_eq_bigSepL [0, 1, 2, 3] (by decide) (by decide), bigSep_univ_eq_bigSepL [0, 1, 2, 3] (by decide) (by decide)]
  show _ = iprop((wholeAt c cc0_scratch0 ∗ wholeAt c cc0_scratch1 ∗ wholeAt c cc0_scratch2 ∗ wholeAt c cc0_scratch3)
    ∗ (wholeAt c cc0_scratch4 ∗ wholeAt c cc0_scratch5 ∗ wholeAt c cc0_scratch6 ∗ wholeAt c cc0_scratch7))
  rw [eqv Laws.sep_assoc, eqv Laws.sep_assoc, eqv Laws.sep_assoc]

end Cert.Proof.K
-- ==== Proof.Body.lean ====
/- The printed body is the list of operations of its device's plane. -/
module

public import proofs.«01_k».proof.Proof.Prog
public import Idealize.ShloMosaic.Lib.Pipeline.Regions

@[expose] public section

noncomputable section

namespace Cert.Proof.K

open Idealize.ShloMosaic Idealize.SL.Sem Cert.KernelIdeal

variable {F : FTy → Type} [FloatOps F]

attribute [local instance] Cert.KernelIdeal.Gen.facts

/-- What a program does once it knows its device. -/
def atDev (p : BProg F) (c : Dev nD) : BProg F :=
  match p with
  | .op .deviceId k => k c
  | p => p

/-- The first thing a program does is to ask for its device. -/
def Asks (p : BProg F) : Prop := ∃ k, p = .op .deviceId k

variable (x : Memref sig .tc .vmem S256x4096 .f32) (hx : x.IsWhole) (w : Memref sig .tc .vmem S4096x512 .f32)
  (hw : w.IsWhole) (o : Memref sig .tc .vmem S4096x512 .f32) (ho : o.IsWhole)

/-- The printed body at its scratch buffers and semaphores. -/
def theBody : BProg F :=
  cc0_body x hx w hw o ho
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    cc0_scratch8 cc0_scratch9 cc0_scratch10 cc0_scratch11 cc0_scratch12 cc0_scratch13 cc0_scratch14 cc0_scratch15
    cc0_scratch16 cc0_scratch17 cc0_scratch18 cc0_scratch19 cc0_scratch20 cc0_scratch21 cc0_scratch22 cc0_scratch23
    cc0_scratch24 cc0_scratch25 cc0_scratch26 cc0_scratch27 cc0_scratch28

theorem theBody_asks : Asks (theBody (F := F) x hx w hw o ho) := ⟨_, rfl⟩

/-- At a device of plane `z` the body runs the operations of that plane. -/
theorem body_eq (c : Fin 16) :
    atDev (theBody (F := F) x hx w hw o ho) c = runOps x w o c (opsZ (zOf c)) := by
  fin_cases c <;> chain_rfl

/-- A program that asks for its device first, run at `c`. -/
theorem asks_eq {p : BProg F} (h : Asks p) : p = .op .deviceId fun c => atDev p c := by
  obtain ⟨k, rfl⟩ := h
  rfl

end Cert.Proof.K
-- ==== Proof.Launch.lean ====
/- The launch of the kernel on all devices, and what memory holds after it. -/
module

public import proofs.«01_k».proof.Proof.Deal
public import proofs.«01_k».proof.Proof.Split
public import proofs.«01_k».proof.Proof.Body
public import proofs.«01_k».proof.Proof.Gen.KernelIdeal.Points
public import Idealize.ShloMosaic.Lib.Pipeline.CollectiveSegs

@[expose] public section

noncomputable section

namespace Cert.Proof.K

open Cert.KernelIdeal Cert.KernelIdeal.Gen Cert.KernelIdeal.Facts₀ Cert.KernelIdeal.Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release

attribute [local instance] Cert.KernelIdeal.Gen.facts

variable {F : FTy → Type} [FloatOps F]

local notation "𝕄" => MT nD τ sig ℕ (Elt F) ℕ UU ℕ

open Idealize.ShloMosaic.Pipeline (BodyObligation owing)

variable (m : (ℓ : Loc nD τ sig) → Buf (Elt F) ℓ) (ρ : Dev nD → PrngReg)

/-! ## Contents -/

/-- A device's rows of the left operand, and its columns of the right. -/
def xs (c : Dev nD) : Vec F S256x4096 .f32 := (win0_0.blk (0 : Fin 1)).view.read (Elt F) (m ((c.tc : Thread nD τ).loc main_arg0))
def ws (c : Dev nD) : Vec F S4096x512 .f32 := (win0_1.blk (0 : Fin 1)).view.read (Elt F) (m ((c.tc : Thread nD τ).loc main_arg1))

/-! ## What the launch deals -/

/-- The invariants and the receipts of round 0. -/
def known (K : Dev nD × Key → ℕ) (KS : SK → ℕ) : sProp 𝕄 :=
  iprop((bigSep Finset.univ fun p : Dev nD × Key => cellInv ER (Rd (xs m)) (K p) (cell p.1 p.2))
    ∗ (bigSep Finset.univ fun p : Dev nD × Key => reached ER (cell p.1 p.2) 0)
    ∗ (bigSep Finset.univ fun p : SK => slotInv ES (KS p) p (rawP p.1 p.2.2 p.2.1)))

instance known_persistent (K : Dev nD × Key → ℕ) (KS : SK → ℕ) : Persistent (known m K KS) := by unfold known; infer_instance

/-- What is a device's alone. -/
def alone (c : Dev nD) : sProp 𝕄 :=
  iprop(posAt c ∗ readAt c ∗ sepL (duTok c) ((opsZ (zOf c)).flatMap paysOf) ∗ sepL (wrTok c) ((opsZ (zOf c)).flatMap writesOf))

def slotsKnown : sProp 𝕄 := iprop(∃ KS : SK → ℕ, bigSep Finset.univ fun p : SK => slotInv ES (KS p) p (rawP (F := F) p.1 p.2.2 p.2.1))

instance slotsKnown_persistent : Persistent (slotsKnown (F := F)) := by unfold slotsKnown; infer_instance

/-- What the first element gives a device, and what it is after the invariants are made. -/
def G (c : Dev nD) : sProp 𝕄 :=
  iprop((bigSep Finset.univ fun k : Key => roundState ER (Rd (xs m)) (cell c k) 0)
    ∗ (bigSep Finset.univ fun k : Key => reached ER (cell c k) 0) ∗ slotsKnown ∗ alone c)
def G' (c : Dev nD) : sProp 𝕄 := iprop((∃ K KS, known m K KS) ∗ alone c)

def u₀ : UU :=
  (initOf (Pipeline.cells cfgs cellOf_inj) (Pipeline.launchToks cfgs cellOf_inj),
    (initOf allCells allToks, initSlots (Finset.univ : Finset SK) 3))

theorem own_pair {a : UB} {b : USlots SK} :
    (BI.own ((embR : Emb (UB × USlots SK) 𝕄) (a, b)) : sProp 𝕄) ⊢ iprop(BI.own (ER a) ∗ BI.own (ES b)) :=
  BI.own_op_elim ((embR : Emb (UB × USlots SK) 𝕄).op_of_mem (Prod.mk_mem_op (URA.mem_op_one a) (URA.mem_one_op b)))

theorem fund_all :
    (BI.own ((embR : Emb (UB × USlots SK) 𝕄) (initOf allCells allToks, initSlots (Finset.univ : Finset SK) 3)) : sProp 𝕄)
      ⊢ |={Set.univ}=> bigSep Finset.univ (G m) := by
  have hread : (bigSep Finset.univ (fun p : SK => readerAt ES p 0) : sProp 𝕄) = bigSep Finset.univ fun c : Dev nD => readAt c := by
    rw [bigSep_univ_prod]; rfl
  have hG : (bigSep Finset.univ (G m) : sProp 𝕄) = iprop((bigSep Finset.univ fun c : Dev nD => bigSep Finset.univ fun k : Key => roundState ER (Rd (xs m)) (cell c k) 0)
      ∗ (bigSep Finset.univ fun c : Dev nD => bigSep Finset.univ fun k : Key => reached ER (cell c k) 0)
      ∗ (bigSep Finset.univ fun _ : Dev nD => slotsKnown)
      ∗ (bigSep Finset.univ fun c : Dev nD => posAt c) ∗ (bigSep Finset.univ fun c : Dev nD => readAt c)
      ∗ (bigSep Finset.univ fun c : Dev nD => sepL (duTok c) ((opsZ (zOf c)).flatMap paysOf))
      ∗ (bigSep Finset.univ fun c : Dev nD => sepL (wrTok c) ((opsZ (zOf c)).flatMap writesOf))) := by
    unfold G alone
    simp only [bigSep_sep']
  rw [hG]
  iintro HU
  ihave HU' := (own_pair (F := F)) $$ HU
  icases HU' with ⟨HR, HS⟩
  imod (Rounds.fund ER (Rd (xs m)) allCells allToks) $$ HR with ⟨Hst, Hr, Hat, Htok⟩
  imod (slots_init ES (Finset.univ : Finset SK) 3 (fun p => rawP (F := F) p.1 p.2.2 p.2.1)) $$ HS with ⟨%ιs, -, #HI, Hrd, Hwr⟩
  imodintro
  ihave Hst' := (Entails.of_eq (over_cells fun g => roundState ER (Rd (xs m)) g 0)) $$ Hst
  ihave Hat' := (Entails.of_eq (over_cells fun g => atPos ER g 0 ∅ 0)) $$ Hat
  ihave Hr' := (Entails.of_eq (over_cells fun g => reached ER g 0)) $$ Hr
  ihave Htok' := (deal_duties (F := F)) $$ Htok
  ihave Hwr' := (deal_writes (F := F)) $$ Hwr
  ihave Hrd' := (Entails.of_eq hread) $$ Hrd
  isplitl [Hst']; · iexact Hst'
  isplitl [Hr']; · iexact Hr'
  isplitr
  · iapply (bigSep_of_persistent (Finset.univ : Finset (Dev nD)) (slotsKnown (F := F)))
    unfold slotsKnown
    iexists ιs
    iexact HI
  isplitl [Hat']; · unfold posAt; iexact Hat'
  isplitl [Hrd']; · iexact Hrd'
  isplitl [Htok']; · iexact Htok'
  iexact Hwr'

/-! ## Semaphores -/

/-- The kernel's own semaphores: all but the barrier. -/
def osem (k : {k : Key // k ≠ .bar}) : SemLoc sig := k.1.loc

theorem ownSemFacts : Pipeline.OwnSemFacts cfg0.spec osem where
  isScoped k := by
    have h : ∀ k ∈ allKeys, k ≠ .bar → k.loc.isScoped .tc = true := by decide +kernel
    exact h k.1 (mem_allKeys _) k.2
  inj := fun a b h => Subtype.ext (loc_inj h)
  disj k := by
    have h : ∀ k ∈ allKeys, k ≠ .bar → ∀ w s, k.loc ≠ .dma ((cfg0.spec w).sem s) := by decide +kernel
    exact h k.1 (mem_allKeys _) k.2

/-- The counters of a device are those of its keys. -/
theorem sems_eq (c : Dev nD) :
    iprop(Pipeline.ownSems0 (Ix := ℕ) (Name := ℕ) (U := UU) (Lvl := ℕ) (Val := Elt F) (τ := τ) osem c ∗ unscopedSems0 c)
      = (bigSep Finset.univ fun k : Key => semVal (cell c k) 0 : sProp 𝕄) := by
  have h1 : (Pipeline.ownSems0 (Ix := ℕ) (Name := ℕ) (U := UU) (Lvl := ℕ) (Val := Elt F) (τ := τ) osem c : sProp 𝕄)
      = bigSep (Finset.univ.erase Key.bar) fun k : Key => semVal (cell c k) 0 := by
    unfold Pipeline.ownSems0
    exact bigSep_subtype_ne Key.bar fun k : Key => (semVal (cell c k) 0 : sProp 𝕄)
  have h2 : (unscopedSems0 c : sProp 𝕄) = semVal (cell c .bar) 0 := by
    unfold unscopedSems0; rw [bigSep_eq_bigSepL_of_eq [SemLoc.reg barSem] (by decide) (by decide)]; rfl
  rw [h1, h2, bigSep_univ_split Key.bar, eqv Laws.sep_comm]
  rfl

theorem make_cells (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Key => iprop(∃ κ : ℕ, cellInv ER (Rd (xs m)) κ (cell c k)))
          ∗ (bigSep Finset.univ fun k : Key => reached ER (cell c k) 0) ∗ slotsKnown ∗ alone c) := by
  have h : iprop((bigSep Finset.univ fun k : Key => semVal (cell c k) 0) ∗ bigSep Finset.univ fun k : Key => roundState ER (Rd (xs m)) (cell c k) 0)
      ⊢ (|={Set.univ}=> bigSep Finset.univ fun k : Key => iprop(∃ κ : ℕ, cellInv ER (Rd (xs m)) κ (cell c k)) : sProp 𝕄) := by
    rw [← bigSep_sep']
    exact (bigSep_mono fun k _ => (Rounds.body_intro ER (Rd (xs m)) (cell c k)).trans inv_alloc).trans (bigSep_fupd _ _)
  unfold G
  iintro ⟨Hos, Hus, Hst, Hr, Hsl, Hal⟩
  imod h $$ [Hos Hus Hst] with HI
  · isplitl [Hos Hus]
    · iapply (Entails.of_eq (sems_eq (F := F) c))
      isplitl [Hos] <;> iassumption
    iexact Hst
  imodintro
  isplitl [HI]; · iexact HI
  isplitl [Hr]; · iexact Hr
  isplitl [Hsl] <;> iassumption

theorem glob :
    (bigSep Finset.univ fun c => iprop(Pipeline.ownSems0 (Ix := ℕ) (Name := ℕ) (U := UU) (Lvl := ℕ) (Val := Elt F) (τ := τ) osem c ∗ unscopedSems0 c ∗ G m c) : sProp 𝕄)
      ⊢ |={Set.univ}=> bigSep Finset.univ (G' m) := by
  have h1 : (bigSep Finset.univ fun c => iprop(Pipeline.ownSems0 (Ix := ℕ) (Name := ℕ) (U := UU) (Lvl := ℕ) (Val := Elt F) (τ := τ) osem c ∗ unscopedSems0 c ∗ G m c) : sProp 𝕄)
      ⊢ |={Set.univ}=> bigSep Finset.univ fun c : Dev nD => iprop((bigSep Finset.univ fun k : Key => iprop(∃ κ : ℕ, cellInv ER (Rd (xs m)) κ (cell c k)))
          ∗ (bigSep Finset.univ fun k : Key => reached ER (cell c k) 0) ∗ slotsKnown ∗ alone c) :=
    (bigSep_mono fun c _ => make_cells m c).trans (bigSep_fupd _ _)
  iintro H
  imod h1 $$ H with H
  imodintro
  irevert H
  have hG : (bigSep Finset.univ (G' m) : sProp 𝕄)
      = iprop((bigSep Finset.univ fun _ : Dev nD => iprop(∃ K KS, known m K KS)) ∗ bigSep Finset.univ fun c : Dev nD => alone c) := by
    unfold G'
    rw [bigSep_sep']
  rw [hG, bigSep_sep', bigSep_sep', bigSep_sep',
    ← bigSep_univ_prod (fun p : Dev nD × Key => iprop(∃ κ : ℕ, cellInv ER (Rd (xs m)) κ (cell p.1 p.2))),
    ← bigSep_univ_prod (fun p : Dev nD × Key => (reached ER (cell p.1 p.2) 0 : sProp 𝕄))]
  iintro ⟨HI, #HR, Hsl, Hal⟩
  ihave HK := (bigSep_exists_pi Finset.univ (fun (p : Dev nD × Key) (κ : ℕ) => (cellInv ER (Rd (xs m)) κ (cell p.1 p.2) : sProp 𝕄))) $$ HI
  icases HK with ⟨%K, #HI⟩
  ihave Hs := (show (bigSep Finset.univ (fun _ : Dev nD => slotsKnown (F := F)) : sProp 𝕄) ⊢ _ from bigSep_elim (Finset.mem_univ (0 : Dev nD))) $$ Hsl
  unfold slotsKnown
  icases Hs with ⟨%KS, #HS⟩
  isplitr
  · iapply (bigSep_of_persistent (Finset.univ : Finset (Dev nD)) (iprop(∃ K KS, known m K KS)))
    iexists K
    iexists KS
    unfold known
    isplitr; · iexact HI
    isplitr; · iexact HR
    iexact HS
  iexact Hal

/-! ## The pipeline's data -/

/-- What a device's body starts from, the buffers apart. -/
def start (c : Dev nD) : sProp 𝕄 :=
  iprop(∃ K KS, ctx (xs m) K KS ∗ posAt c ∗ readAt c ∗ sepL (tok c) (opsZ (zOf c)))

def dats (_ : Fin 1) (c : Dev nD) : Pipeline.Dat τ (Elt F) ℕ ℕ UU ℕ cfg0 c where
  A w := m ((cfg0.win w).arr.view.loc (c.tc : Thread nD τ))
  after w _ := match w with
    | ⟨0, _⟩ => xs m c
    | ⟨1, _⟩ => ws m c
    | ⟨2, _⟩ => goal (xs m) (ws m) c
  Φ t := match t with
    | ⟨0, _⟩ => iprop(start m c ∗ bufsAt c)
    | ⟨_ + 1, _⟩ => iprop(bufsAt c ∗ bigSep Finset.univ fun k : Key => semVal (cell c k) 0)
  q _ := fullShare
  owed t := match t with
    | ⟨0, _⟩ => owed c (opsZ (zOf c))
    | ⟨_ + 1, _⟩ => 0

theorem share_eq (c : Dev nD) (w : Fin cfg0.W) : (dats m 0 c).share w = fullShare := by unfold Pipeline.Dat.share; split <;> rfl

theorem owns_whole_eq (c : Dev nD) (b : Ref sig .tc) (V : b.ty.Contents (Elt F)) :
    (owns (Ix := ℕ) (Name := ℕ) (U := UU) (Lvl := ℕ) (c.tc : Thread nD τ) (Memref.whole b) fullShare V : sProp 𝕄)
      = iprop(∃ f : Buf (Elt F) ((c.tc : Thread nD τ).loc b), ⌜f = V⌝ ∗ ((c.tc : Thread nD τ).loc b ↦{fullShare} f)) := by
  unfold owns; simp only [Memref.view_whole, View.read_whole, View.set_whole]

/-- A staging buffer at given contents. -/
abbrev held (c : Dev nD) (b : Ref sig .tc) (V : b.ty.Contents (Elt F)) : sProp 𝕄 :=
  iprop(∃ f : Buf (Elt F) ((c.tc : Thread nD τ).loc b), ⌜f = V⌝ ∗ ((c.tc : Thread nD τ).loc b ↦{fullShare} f))

def bodyPre (c : Dev nD) : sProp 𝕄 :=
  iprop((start m c ∗ bufsAt c) ∗ (dats m 0 c).owesAt 0 t0_0.castSucc
    ∗ (∃ d, held c cc0_stg0_0 ((dats m 0 c).before (0 : Fin 3) t0_0 d))
    ∗ (∃ d, held c cc0_stg1_0 ((dats m 0 c).before (1 : Fin 3) t0_0 d))
    ∗ (∃ d, held c cc0_stg2_0 ((dats m 0 c).before (2 : Fin 3) t0_0 d)))

def bodyPost (c : Dev nD) : sProp 𝕄 :=
  iprop((bufsAt c ∗ bigSep Finset.univ fun k : Key => semVal (cell c k) 0) ∗ (dats m 0 c).owesAt 0 t0_0.succ
    ∗ held c cc0_stg0_0 (xs m c) ∗ held c cc0_stg1_0 (ws m c) ∗ held c cc0_stg2_0 (goal (xs m) (ws m) c))

theorem before_x (c : Dev nD) (d) : (dats m 0 c).before (0 : Fin 3) t0_0 d = xs m c := by
  unfold Pipeline.Dat.before; rw [if_pos (fetch0_0 t0_0)]; rfl
theorem before_w (c : Dev nD) (d) : (dats m 0 c).before (1 : Fin 3) t0_0 d = ws m c := by
  unfold Pipeline.Dat.before; rw [if_pos (fetch0_1 t0_0)]; rfl

/-- The body, on a device. -/
theorem body_runs (c : Dev nD) :
    bodyPre m c ⊢ WP c (theBody xM (Memref.isWhole_whole _) wM (Memref.isWhole_whole _) oM (Memref.isWhole_whole _)) (fun _ => bodyPost m c) := by
  rw [asks_eq (theBody_asks xM (Memref.isWhole_whole _) wM (Memref.isWhole_whole _) oM (Memref.isWhole_whole _))]
  unfold WP
  rw [wp_deviceId]
  show bodyPre m c ⊢ WP c (atDev (theBody xM (Memref.isWhole_whole _) wM (Memref.isWhole_whole _) oM (Memref.isWhole_whole _)) c) (fun _ => bodyPost m c)
  rw [body_eq]
  unfold bodyPre start Pipeline.Dat.owesAt Pipeline.owesWithin
  simp only [before_x, before_w]
  iintro ⟨⟨⟨%K, %KS, #HC, HP, HR, HT⟩, HB⟩, ⟨%W, -, HO⟩, ⟨%d0, %f0, %h0, H0⟩, ⟨%d1, %f1, %h1, H1⟩, ⟨%d2, %f2, %h2, H2⟩⟩
  ihave HB' := (bufs_cut (F := F) c) $$ HB
  iapply (run_body (xs m) (ws m) (K := K) (KS := KS) c W (fun _ => bodyPost m c)) $$ [HP HR HT HO HB' H0 H1 H2]
  · isplitr; · iexact HC
    isplitl [HP HR HB']
    · iapply (holds_init (xs m) (K := K) (KS := KS) c)
      isplitr; · iexact HC
      isplitl [HB']; · iexact HB'
      isplitl [HP] <;> iassumption
    isplitl [HT]; · iexact HT
    isplitl [HO]; · iexact HO
    unfold win
    rw [← h0, ← h1]
    isplitl [H0]; · iexact H0
    isplitl [H1]; · iexact H1
    iexists f2
    isplitr
    · ipureintro
      intro i hi
      exact absurd hi List.not_mem_nil
    iexact H2
  iintro ⟨HB, HZ, ⟨%W', HO⟩, H0, H1, H2⟩
  unfold bodyPost Pipeline.Dat.owesAt Pipeline.owesWithin
  isplitl [HB HZ]
  · isplitl [HB]
    · iapply (bufs_glue (F := F) c) $$ HB
    iexact HZ
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  iexists _; isplitr; · (ipureintro; rfl)
  iexact H2

set_option maxRecDepth 8000 in
theorem body_obligation (c : Dev nD) : BodyObligation (dats (F := F) m 0 c) (defs₀ (F := F)) 𝒱₀ 0 Set.univ := fun t => by
  rw [fin_N0 t]
  rw [bigSep_W0, bigSep_W0]
  simp only [owns_whole_eq]
  exact body_runs m c

/-! ## The launch's conditions -/

theorem start_intro (c : Dev nD) :
    iprop(Pipeline.unscopedRestP Pipeline.Prefetch.none cfg0.spec c (fun b => m ((c.tc : Thread nD τ).loc b)) ∗ levAts L lev
        ∗ Pipeline.launchCred (fun d : Dev nD => owed d (opsZ (zOf d))) c ∗ prngReg c (ρ c) ∗ G' m c)
      ⊢ |={Set.univ}=> iprop(start m c ∗ emp) := by
  unfold G' alone known start ctx
  rw [launch_cred, toks_split]
  iintro ⟨-, Hlev, Hcr, -, ⟨%K, %KS, HI, HR, HS⟩, HP, Hrd, Hdu, Hwr⟩
  imodintro
  isplitl
  · iexists K
    iexists KS
    isplitl [HI HR HS Hlev]
    · isplitl [HI]; · iexact HI
      isplitl [HR]; · iexact HR
      isplitl [HS] <;> iassumption
    isplitl [HP]; · iexact HP
    isplitl [Hrd]; · iexact Hrd
    isplitl [Hdu]; · iexact Hdu
    isplitl [Hcr] <;> iassumption
  iempintro

theorem phi_in (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ bufsAt c) from rfl,
    show (Pipeline.scopedRest cfg0.spec c : sProp 𝕄) = bufsAt c from bufs_rest c]
  iintro ⟨Hs, -, Hr⟩
  isplitl [Hs] <;> iassumption

theorem phi_out (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(bufsAt c ∗ bigSep Finset.univ fun k : Key => semVal (cell c k) 0) from rfl,
    show (Pipeline.scopedRest cfg0.spec c : sProp 𝕄) = bufsAt c from bufs_rest c, ← sems_eq]
  iintro ⟨HB, HO, HU⟩
  isplitl [HU]; · iexact HU
  isplitl [HO] <;> iassumption

theorem waits (c : Dev nD) : (levAts L lev : sProp 𝕄) ⊢ Pipeline.cellsWaits cfgs (dats m) 0 0 c := by
  have hpos : ∀ z : Fin 4, ((opsZ z).filterMap payLv).all (fun l => decide (0 < l) && decide (l < 2000)) = true := by decide +kernel
  refine Pipeline.cellsWaits_intro cfgs (dats m) 0 0 c fun w s t => ?_
  refine Pipeline.mayWait_of_levAts (show 0 ∈ L _ by unfold L; rw [if_pos rfl]; exact Finset.mem_range.mpr (by decide)) fun g i hg => ?_
  rcases t with ⟨_ | _, ht⟩
  · obtain ⟨h1, h2⟩ := owed_lv c _ g i hg
    have h3 := List.all_eq_true.mp (hpos (zOf c)) i h2
    rw [Bool.and_eq_true, decide_eq_true_eq, decide_eq_true_eq] at h3
    refine ⟨?_, h3.1⟩
    unfold L
    rw [if_pos h1]
    exact Finset.mem_range.mpr h3.2
  · exact absurd hg (Nat.lt_irrefl 0)

/-! ## The run -/

/-- What an array of a device holds after the run. -/
def finalA (c : Dev nD) (w : Fin cfg0.W) : Buf (Elt F) ((cfg0.win w).arr.view.loc (c.tc : Thread nD τ)) := (dats m 0 c).arrAt w cfg0.N

set_option maxRecDepth 8000 in
/-- From any memory with all counters at zero, every fair run on the 16 devices ends, with each array at its final
    contents and every counter at zero. -/
theorem run_main : θ_run defs (onTc (τ := τ) (main (F := F))) ⟨m, fun _ => 0, ρ⟩ (fun r =>
    (∀ c : Dev nD, ∀ w : Fin cfg0.W, r.2.mem ((cfg0.win w).arr.view.loc (c.tc : Thread nD τ)) = finalA m c w)
      ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := share_eq m) (hdistinct := winFacts0.arr_inj)
    (O₀ := fun d : Dev nD => owed d (opsZ (zOf d))) (howed₀ := fun _ => rfl) (howedN := fun _ => rfl)
    (L := L) (lv := lev) (hL := fun _ h => if_neg h) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_in m) (hout := phi_out m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The operands are as they were. -/
theorem finalA_x (c : Dev nD) : finalA m c (0 : Fin 3) = m ((c.tc : Thread nD τ).loc main_arg0) := (dats m 0 c).arrAt_in (0 : Fin 3) rfl _
theorem finalA_w (c : Dev nD) : finalA m c (1 : Fin 3) = m ((c.tc : Thread nD τ).loc main_arg1) := (dats m 0 c).arrAt_in (1 : Fin 3) rfl _

end Cert.Proof.K
-- ==== Proof.Value.lean ====
/- The value the result array ends with, entry by entry. -/
module

public import proofs.«01_k».proof.Proof.Launch
public import Idealize.ShloMosaic.Lib.Pipeline.Value
public import Idealize.ShloMosaic.Lib.MatmulPlain
public import Idealize.ShloMosaic.Lib.StackMember

@[expose] public section

noncomputable section

namespace Cert.Proof.K

open Cert.KernelIdeal Cert.KernelIdeal.Gen Cert.KernelIdeal.Facts₀ Cert.KernelIdeal.Facts
open Idealize.ShloMosaic
open Idealize.ShloMosaic.TcCoe
open Idealize.SL.Sem
open Idealize.ShloMosaic.ValueIdx

attribute [local instance] Cert.KernelIdeal.Gen.facts

section AnyFloats

variable {F : FTy → Type} [FloatOps F] (m : (ℓ : Loc nD τ sig) → Buf (Elt F) ℓ)

/-! ## The three windows are the whole arrays -/

theorem emb_x (i : S256x4096.Idx) : (win0_0.blk t0_0).view.emb i = i := by
  funext a
  refine Fin.ext ?_
  match a with
  | ⟨0, _⟩ => show 0 * 256 + 1 * (i 0).val = (i 0).val; omega
  | ⟨1, _⟩ => show 0 * 4096 + 1 * (i 1).val = (i 1).val; omega

theorem emb_w (i : S4096x512.Idx) : (win0_1.blk t0_0).view.emb i = i := by
  funext a
  refine Fin.ext ?_
  match a with
  | ⟨0, _⟩ => show 0 * 4096 + 1 * (i 0).val = (i 0).val; omega
  | ⟨1, _⟩ => show 0 * 512 + 1 * (i 1).val = (i 1).val; omega

theorem emb_o (i : S4096x512.Idx) : (win0_2.blk t0_0).view.emb i = i := by
  funext a
  refine Fin.ext ?_
  match a with
  | ⟨0, _⟩ => show 0 * 4096 + 1 * (i 0).val = (i 0).val; omega
  | ⟨1, _⟩ => show 0 * 512 + 1 * (i 1).val = (i 1).val; omega

theorem xs_eq (c : Dev nD) : xs m c = m ((c.tc : Thread nD τ).loc main_arg0) :=
  funext fun i => congrArg (m ((c.tc : Thread nD τ).loc main_arg0)) (emb_x i)

theorem ws_eq (c : Dev nD) : ws m c = m ((c.tc : Thread nD τ).loc main_arg1) :=
  funext fun i => congrArg (m ((c.tc : Thread nD τ).loc main_arg1)) (emb_w i)

theorem finalA_o (c : Dev nD) : finalA m c (2 : Fin 3) = goal (xs m) (ws m) c := by
  refine (dats m 0 c).arrAt_eq_of_cover (2 : Fin 3) (goal (xs m) (ws m) c) (fun t _ => ?_) (fun i => ?_)
  · obtain rfl := fin_N0 t
    exact funext fun i => (congrArg (goal (xs m) (ws m) c) (emb_o i)).symm
  · refine ⟨t0_0, flush0_2 _, ?_⟩
    have h := (win0_2.blk t0_0).view.emb_mem_set i
    rw [emb_o] at h
    exact h

/-- The whole program: every device ends with its result, its arguments as they were, all counters at zero. -/
theorem run_value (ρ : Dev nD → PrngReg) : θ_run defs (onTc (τ := τ) (main (F := F))) ⟨m, fun _ => 0, ρ⟩ fun r =>
    (∀ c : Dev nD, r.2.mem ((c.tc : Thread nD τ).loc main_v1) = goal (xs m) (ws m) c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run defs _ _).mono (fun _ h => ⟨fun c => ⟨(h.1 c (2 : Fin 3)).trans (finalA_o m c),
    (h.1 c (0 : Fin 3)).trans (finalA_x m c), (h.1 c (1 : Fin 3)).trans (finalA_w m c)⟩, h.2⟩) (run_main m ρ)

end AnyFloats

/-! ## Over the reals -/

/-- The activation of one number. -/
def act (y : Ideal .f32) : Ideal .f32 :=
  FloatOps.mulf (FloatOps.mulf (Scalar.ofBits .f32 0x3F000000#32) y)
    (FloatOps.addf (Scalar.ofBits .f32 0x3F800000#32)
      (FloatOps.tanh (FloatOps.mulf (Scalar.ofBits .f32 0x3F4C422A#32)
        (FloatOps.addf y (FloatOps.mulf (Scalar.ofBits .f32 0x3D372713#32) (FloatOps.mulf (FloatOps.mulf y y) y))))))

theorem gelu_apply {s : Shape} (y : FVec Ideal s .f32) (i : s.Idx) : gelu y i = act (y i) := by
  have h : ∀ a b : EReal, a * b * b * b = a * (b * b * b) := fun a b => by rw [mul_assoc, mul_assoc, mul_assoc]
  unfold gelu act
  exact congrArg (fun z => FloatOps.mulf (FloatOps.mulf (Scalar.ofBits .f32 0x3F000000#32) (y i))
    (FloatOps.addf (Scalar.ofBits .f32 0x3F800000#32)
      (FloatOps.tanh (FloatOps.mulf (Scalar.ofBits .f32 0x3F4C422A#32) (FloatOps.addf (y i) z))))) (h _ (y i))

theorem val64_apply (a : Vec Ideal S64x4096 .f32) (w : Vec Ideal S4096x512 .f32) (r : Fin 64) (q : Fin 512) :
    val64 (asSlot a) w (ix2 r q) = act (∑ k : Fin 4096, a (ix2 r k) * w (ix2 k q)) := by
  unfold val64
  rw [gelu_apply, asSlot_cast, shapeCast_self]
  refine congrArg act ?_
  refine (Ideal.matmul_plain_apply none a w (constant S64x512 .f32 0x00000000#32) r q).trans ?_
  rw [constant_apply, Ideal.ofBits_zero_f32, zero_add]

theorem val256_apply (a : Vec Ideal S256x4096 .f32) (w : Vec Ideal S4096x512 .f32) (r : Fin 256) (q : Fin 512) :
    val256 a w (ix2 r q) = act (∑ k : Fin 4096, a (ix2 r k) * w (ix2 k q)) := by
  unfold val256
  rw [gelu_apply, shapeCast_self, shapeCast_self]
  refine congrArg act ?_
  refine (Ideal.matmul_plain_apply none a w (constant S256x512 .f32 0x00000000#32) r q).trans ?_
  rw [constant_apply, Ideal.ofBits_zero_f32, zero_add]

/-- One entry of a device's result: the row of the whole left operand it stands in, times the device's column. -/
theorem goal_apply (X : Dev nD → Vec Ideal S256x4096 .f32) (Y : Dev nD → Vec Ideal S4096x512 .f32) (c : Dev nD) (i : S4096x512.Idx) :
    goal X Y c i = act (∑ k : Fin 4096,
      X (blk i).1 (ix2 (⟨(i 0).val % 256, Nat.mod_lt _ (by decide)⟩ : Fin 256) k) * Y c (ix2 k ⟨(i 1).val, idx2_lt1 i⟩)) := by
  have h1 : (i 1).val < 512 := (i 1).isLt
  unfold goal
  split
  · rename_i h
    have e : in256 i = ix2 (⟨(i 0).val % 256, Nat.mod_lt _ (by decide)⟩ : Fin 256) (⟨(i 1).val, idx2_lt1 i⟩ : Fin 512) := by
      funext a
      refine Fin.ext ?_
      match a with
      | ⟨0, _⟩ => rfl
      | ⟨1, _⟩ => exact Nat.mod_eq_of_lt h1
    rw [e, val256_apply, h]
  · have e : in64 i = ix2 (⟨(i 0).val % 64, Nat.mod_lt _ (by decide)⟩ : Fin 64) (⟨(i 1).val, idx2_lt1 i⟩ : Fin 512) := by
      funext a
      refine Fin.ext ?_
      match a with
      | ⟨0, _⟩ => rfl
      | ⟨1, _⟩ => exact Nat.mod_eq_of_lt h1
    have hq : ∀ k : Fin 4096, (xRect (blk i).2).emb (ix2 (⟨(i 0).val % 64, Nat.mod_lt _ (by decide)⟩ : Fin 64) k)
        = ix2 (⟨(i 0).val % 256, Nat.mod_lt _ (by decide)⟩ : Fin 256) k := fun k => by
      funext a
      refine Fin.ext ?_
      match a with
      | ⟨0, _⟩ => show 64 * ((i 0).val % 256 / 64) + 1 * ((i 0).val % 64) = (i 0).val % 256; omega
      | ⟨1, _⟩ => show 0 + 1 * k.val = k.val; omega
    rw [e, val64_apply]
    refine congrArg act (Finset.sum_congr rfl fun k _ => ?_)
    unfold qrow
    rw [hq k]

end Cert.Proof.K
-- ==== Proof.Claims.lean ====
/- The claims of the certificate: the frames of the three programs, and the kernel against the reference over the reals. -/
module

public import proofs.«01_k».proof.Defs
public import proofs.«01_k».proof.Proof.Same
public import proofs.«01_k».proof.Proof.Value
public import proofs.«01_k».proof.Proof.Gen.ReferenceIdeal
public import proofs.«01_k».proof.Proof.Gen.ReferenceIdeal.Run

@[expose] public section

noncomputable section

namespace Cert.Proof

open Idealize.ShloMosaic Idealize.ShloMosaic.TcCoe Idealize.SL.Sem Idealize.ShloMosaic.ValueIdx

attribute [local instance] Cert.Kernel.Gen.facts Cert.KernelIdeal.Gen.facts Cert.ReferenceIdeal.Gen.facts

/-! ## The frames -/

theorem frame_kernelIdeal : Cert.quiescent_KernelIdeal := fun m ρ _ =>
  (θ_run Cert.KernelIdeal.defs _ _).mono (fun _ h => ⟨fun c => (h.1 c).2, h.2⟩) (K.run_value (F := Ideal) m ρ)

theorem frame_kernel : Cert.quiescent_Kernel := by
  intro m ρ _
  have h : θ_run Cert.KernelIdeal.defs (onTc (τ := Cert.KernelIdeal.τ) (Cert.KernelIdeal.main (F := Bits))) ⟨m, fun _ => 0, ρ⟩ (fun r =>
      (∀ c : Dev Cert.KernelIdeal.nD,
        r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
        ∧ r.2.sem = fun _ => 0) :=
    (θ_run Cert.KernelIdeal.defs _ _).mono (fun _ h => ⟨fun c => (h.1 c).2, h.2⟩) (K.run_value (F := Bits) m ρ)
  rw [defs_same, main_same]
  exact h

/-- The reference has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-! ## The value -/

section Reference

open Cert.ReferenceIdeal

/-- What the reference computes from its two whole arrays. -/
def refOut (x : FVec Ideal S4096x4096 .f32) (w : FVec Ideal S4096x8192 .f32) : FVec Ideal S4096x8192 .f32 :=
  let y := Host.dotGeneral dot_S4096x4096_S4096x8192_S4096x8192_1_0_0_1_n_n none x w
  mulf (mulf (broadcastInDim S4096x8192 ![] Facts₀.bcast_S_S4096x8192 (constant S_ .f32 0x3F000000#32)) y)
    (addf (broadcastInDim S4096x8192 ![] Facts₀.bcast_S_S4096x8192 (constant S_ .f32 0x3F800000#32))
      (Host.tanh (mulf (broadcastInDim S4096x8192 ![] Facts₀.bcast_S_S4096x8192 (constant S_ .f32 0x3F4C422A#32))
        (addf y (mulf (broadcastInDim S4096x8192 ![] Facts₀.bcast_S_S4096x8192 (constant S_ .f32 0x3D372713#32)) (mulf (mulf y y) y))))))

theorem refOut_apply (x : FVec Ideal S4096x4096 .f32) (w : FVec Ideal S4096x8192 .f32) (r : Fin 4096) (q : Fin 8192) :
    refOut x w (ix2 r q) = K.act (∑ k : Fin 4096, x (ix2 r k) * w (ix2 k q)) := by
  have h : Host.dotGeneral dot_S4096x4096_S4096x8192_S4096x8192_1_0_0_1_n_n none x w (ix2 r q)
      = ∑ k : Fin 4096, x (ix2 r k) * w (ix2 k q) := StackMember.dotGeneral_plain_apply none x w r q
  rw [← h]
  rfl

theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v13) = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end Reference

/-- Each device's result is its block of columns of the reference's. -/
theorem goal_block (X : FVec Ideal ⟨2, ![4096, 4096]⟩ .f32) (W : FVec Ideal ⟨2, ![4096, 8192]⟩ .f32)
    (x : Dev Cert.KernelIdeal.nD → Vec Ideal Cert.KernelIdeal.S256x4096 .f32) (w : Dev Cert.KernelIdeal.nD → Vec Ideal Cert.KernelIdeal.S4096x512 .f32)
    (hx : ∀ c, x c = Layout.block ⟨2, ![256, 4096]⟩ ⟨2, ![4096, 4096]⟩ 0 16 c X)
    (hw : ∀ c, w c = Layout.block ⟨2, ![4096, 512]⟩ ⟨2, ![4096, 8192]⟩ 1 16 c W) (c : Dev Cert.KernelIdeal.nD) :
    K.goal x w c = Layout.block ⟨2, ![4096, 512]⟩ ⟨2, ![4096, 8192]⟩ 1 16 c (refOut X W) := by
  funext i
  refine (K.goal_apply x w c i).trans (Eq.trans ?_ (refOut_apply X W ⟨(i 0).val, idx2_lt0 i⟩
    ⟨c.val * 512 + (i 1).val, by have h1 : (i 1).val < 512 := (i 1).isLt; have h2 : c.val < 16 := c.isLt; omega⟩).symm) |>.trans
    (congrArg (refOut X W) ?_)
  swap
  · funext a
    refine Fin.ext ?_
    match a with
    | ⟨0, _⟩ => rfl
    | ⟨1, _⟩ => rfl
  refine congrArg K.act (Finset.sum_congr rfl fun k _ => ?_)
  rw [hx, hw, Layout.block_apply, Layout.block_apply]
  refine congrArg₂ (· * ·) (congrArg X ?_) (congrArg W ?_)
  · funext a
    refine Fin.ext ?_
    match a with
    | ⟨0, _⟩ => show (i 0).val / 256 * 256 + (i 0).val % 256 = (i 0).val; omega
    | ⟨1, _⟩ => rfl
  · funext a
    refine Fin.ext ?_
    match a with
    | ⟨0, _⟩ => rfl
    | ⟨1, _⟩ => rfl

theorem algebraic : Cert.algebraic_KernelIdeal_ReferenceIdeal := by
  intro m g m' g' _ h
  have hv : ∀ c, K.goal (K.xs m) (K.ws m) c = Layout.block ⟨2, ![4096, 512]⟩ ⟨2, ![4096, 8192]⟩ 1 16 c (refOut _ _) :=
    goal_block _ _ _ _ (fun c => (K.xs_eq m c).trans (h c).1) (fun c => (K.ws_eq m c).trans (h c).2)
  refine ⟨_, (θ_run Cert.KernelIdeal.defs _ _).mono (fun r hr c => ⟨(hr.1 c).1.trans (hv c), (hr.1 c).2⟩) (K.run_value m g),
    (θ_run Cert.ReferenceIdeal.defs _ _).mono (fun r hr => hr 0) (run_reference m' g')⟩

end Cert.Proof
-- ==== Proof.lean ====
module

public import proofs.«01_k».proof.Proof.Claims

@[expose] public section

namespace Cert.Proof

theorem claim : Cert.Claim :=
  ⟨Cert.Kernel.Gen.facts, Cert.KernelIdeal.Gen.facts, Cert.ReferenceIdeal.Gen.facts,
    frame_kernel, frame_kernelIdeal, frame_reference, trivial, algebraic⟩

end Cert.Proof
